-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "s" .f32 0x3D3504F3#32 (((Real.sqrt 512)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x256 : Shape := ⟨3, ![8, 1024, 256]⟩
abbrev S8x1024 : Shape := ⟨2, ![8, 1024]⟩
abbrev S256x512 : Shape := ⟨2, ![256, 512]⟩
abbrev S512 : Shape := ⟨1, ![512]⟩
abbrev S512x512 : Shape := ⟨2, ![512, 512]⟩
abbrev S512x1024 : Shape := ⟨2, ![512, 1024]⟩
abbrev S1024 : Shape := ⟨1, ![1024]⟩
abbrev S1024x512 : Shape := ⟨2, ![1024, 512]⟩
abbrev S8x1x1024 : Shape := ⟨3, ![8, 1, 1024]⟩
abbrev S1x512 : Shape := ⟨2, ![1, 512]⟩
abbrev S1x1024 : Shape := ⟨2, ![1, 1024]⟩
abbrev S8x512 : Shape := ⟨2, ![8, 512]⟩
abbrev S1x1024x256 : Shape := ⟨3, ![1, 1024, 256]⟩
abbrev S2x1024x512 : Shape := ⟨3, ![2, 1024, 512]⟩
abbrev S2x1x1024 : Shape := ⟨3, ![2, 1, 1024]⟩
abbrev S1024x256 : Shape := ⟨2, ![1024, 256]⟩
abbrev S1x1x1024 : Shape := ⟨3, ![1, 1, 1024]⟩
abbrev S1 : Shape := ⟨1, ![1]⟩
abbrev S1x1x1 : Shape := ⟨3, ![1, 1, 1]⟩
abbrev S1x1024x512 : Shape := ⟨3, ![1, 1024, 512]⟩
abbrev S1024x1024 : Shape := ⟨2, ![1024, 1024]⟩

abbrev nBuf : Space → Nat
  | .hbm => 17
  | .vmem => 16
  | .smem => 0
  | _ => 0

abbrev bufTy : (tb : Table) → Fin (tcTables nBuf tb) → BufTy
  | .hbm, ⟨0, _⟩ => ⟨S8x1024x256, .f32⟩
  | .hbm, ⟨1, _⟩ => ⟨S8x1024, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S1024x512, .f32⟩
  | .hbm, ⟨9, _⟩ => ⟨S512, .f32⟩
  | .hbm, ⟨10, _⟩ => ⟨S8x1x1024, .f32⟩
  | .hbm, ⟨11, _⟩ => ⟨S1x512, .f32⟩
  | .hbm, ⟨12, _⟩ => ⟨S1x512, .f32⟩
  | .hbm, ⟨13, _⟩ => ⟨S1x1024, .f32⟩
  | .hbm, ⟨14, _⟩ => ⟨S1x512, .f32⟩
  | .hbm, ⟨15, _⟩ => ⟨S8x512, .f32⟩
  | .hbm, ⟨16, _⟩ => ⟨S8x1024, .f32⟩
  | .local _ .vmem, ⟨0, _⟩ => ⟨S1x1024x256, .f32⟩
  | .local _ .vmem, ⟨1, _⟩ => ⟨S1x1024x256, .f32⟩
  | .local _ .vmem, ⟨2, _⟩ => ⟨S8x1x1024, .f32⟩
  | .local _ .vmem, ⟨3, _⟩ => ⟨S256x512, .f32⟩
  | .local _ .vmem, ⟨4, _⟩ => ⟨S1x512, .f32⟩
  | .local _ .vmem, ⟨5, _⟩ => ⟨S512x512, .f32⟩
  | .local _ .vmem, ⟨6, _⟩ => ⟨S1x512, .f32⟩
  | .local _ .vmem, ⟨7, _⟩ => ⟨S512x1024, .f32⟩
  | .local _ .vmem, ⟨8, _⟩ => ⟨S1x1024, .f32⟩
  | .local _ .vmem, ⟨9, _⟩ => ⟨S1024x512, .f32⟩
  | .local _ .vmem, ⟨10, _⟩ => ⟨S1x512, .f32⟩
  | .local _ .vmem, ⟨11, _⟩ => ⟨S8x512, .f32⟩
  | .local _ .vmem, ⟨12, _⟩ => ⟨S8x1024, .f32⟩
  | .local _ .vmem, ⟨13, _⟩ => ⟨S8x512, .f32⟩
  | .local _ .vmem, ⟨14, _⟩ => ⟨S2x1024x512, .f32⟩
  | .local _ .vmem, ⟨15, _⟩ => ⟨S2x1x1024, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v14 : BitVec 32 := Scalar.subi c1_i32 v0
  let v17 : Index := Scalar.indexCast v14
  let c0_10 : Index := 0#32
  let c0_11 : Index := 0#32
  ![v17.toNat, 0, 0]
def k0_off2 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v14 : BitVec 32 := Scalar.subi c1_i32 v0
  let v33 : Index := Scalar.indexCast v14
  let c0_14 : Index := 0#32
  let c0_15 : Index := 0#32
  ![v33.toNat, 0, 0]
def k0_off3 (i : grid0.Coords) : Fin 2 → Nat :=
  let arg0 : BitVec 32 := BitVec.ofNat 32 (i 0).val
  let c1_i32_8 : BitVec 32 := 1#32
  let v15 : BitVec 32 := Scalar.subi arg0 c1_i32_8
  let c0_i32_9 : BitVec 32 := 0#32
  let v16 : BitVec 32 := Scalar.maxsi v15 c0_i32_9
  let v37 : Index := Scalar.indexCast v16
  let c0_17 : Index := 0#32
  ![v37.toNat, 0]
def k0_off4 (i : grid0.Coords) : Fin 2 → Nat :=
  let arg0 : BitVec 32 := BitVec.ofNat 32 (i 0).val
  let c1_i32_8 : BitVec 32 := 1#32
  let v15 : BitVec 32 := Scalar.subi arg0 c1_i32_8
  let c0_i32_9 : BitVec 32 := 0#32
  let v16 : BitVec 32 := Scalar.maxsi v15 c0_i32_9
  let v39 : Index := Scalar.indexCast v16
  let c0_18 : Index := 0#32
  ![v39.toNat, 0]
def k0_off5 (i : grid0.Coords) : Fin 2 → Nat :=
  let arg0 : BitVec 32 := BitVec.ofNat 32 (i 0).val
  let v55 : Index := Scalar.indexCast arg0
  let c0_30 : Index := 0#32
  ![v55.toNat, 0]
def k0_off6 (i : grid0.Coords) : Fin 3 → Nat :=
  let arg0 : BitVec 32 := BitVec.ofNat 32 (i 0).val
  let c2_i32 : BitVec 32 := 2#32
  let v0 : BitVec 32 := Scalar.remsi arg0 c2_i32
  let v62 : Index := Scalar.indexCast v0
  let c0_33 : Index := 0#32
  let c0_34 : Index := 0#32
  ![v62.toNat, 0, 0]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v66 : Index := Scalar.indexCast v0
  let c0_35 : Index := 0#32
  let c0_36 : Index := 0#32
  ![v66.toNat, 0, 0]
def k0_cond2 (i : grid0.Coords) : BitVec 1 :=
  let arg0 : BitVec 32 := BitVec.ofNat 32 (i 0).val
  let c7_i32 : BitVec 32 := 7#32
  let v70 : BitVec 1 := Scalar.cmpi .eq arg0 c7_i32
  let v71 : BitVec 32 := Scalar.extui v70
  let c0_i32_37 : BitVec 32 := 0#32
  let v72 : BitVec 1 := Scalar.cmpi .ne v71 c0_i32_37
  v72

def k0_off8 (i : grid0.Coords) : Fin 3 → Nat :=
  let arg0 : BitVec 32 := BitVec.ofNat 32 (i 0).val
  let c2_i32 : BitVec 32 := 2#32
  let v0 : BitVec 32 := Scalar.remsi arg0 c2_i32
  let v73 : Index := Scalar.indexCast v0
  let c0_38 : Index := 0#32
  let c0_39 : Index := 0#32
  ![v73.toNat, 0, 0]
def k0_off9 (i : grid0.Coords) : Fin 3 → Nat :=
  let arg0 : BitVec 32 := BitVec.ofNat 32 (i 0).val
  let c2_i32 : BitVec 32 := 2#32
  let v0 : BitVec 32 := Scalar.remsi arg0 c2_i32
  let v89 : Index := Scalar.indexCast v0
  let c0_42 : Index := 0#32
  let c0_43 : Index := 0#32
  ![v89.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "s" => some (((Real.sqrt 512)⁻¹ : ℝ) : EReal)
  | _ => none
-- ==== ReferenceIdeal.lean ====
abbrev S8x1024x256 : Shape := ⟨3, ![8, 1024, 256]⟩
abbrev S8x1024 : Shape := ⟨2, ![8, 1024]⟩
abbrev S256x512 : Shape := ⟨2, ![256, 512]⟩
abbrev S512 : Shape := ⟨1, ![512]⟩
abbrev S512x512 : Shape := ⟨2, ![512, 512]⟩
abbrev S512x1024 : Shape := ⟨2, ![512, 1024]⟩
abbrev S1024 : Shape := ⟨1, ![1024]⟩
abbrev S1024x512 : Shape := ⟨2, ![1024, 512]⟩
abbrev S8192x256 : Shape := ⟨2, ![8192, 256]⟩
abbrev S8192x512 : Shape := ⟨2, ![8192, 512]⟩
abbrev S1x512 : Shape := ⟨2, ![1, 512]⟩
abbrev S_ : Shape := ⟨0, ![]⟩
abbrev S8192x1024 : Shape := ⟨2, ![8192, 1024]⟩
abbrev S1x1024 : Shape := ⟨2, ![1, 1024]⟩
abbrev S8x512 : Shape := ⟨2, ![8, 512]⟩
abbrev S8x1024x512 : Shape := ⟨3, ![8, 1024, 512]⟩
abbrev S8192 : Shape := ⟨1, ![8192]⟩
abbrev S8 : Shape := ⟨1, ![8]⟩
abbrev S8x1 : Shape := ⟨2, ![8, 1]⟩
abbrev S8x1024x1 : Shape := ⟨3, ![8, 1024, 1]⟩

abbrev nBuf : Space → Nat
  | .hbm => 62
  | .vmem => 0
  | .smem => 0
  | _ => 0

abbrev bufTy : (tb : Table) → Fin (tcTables nBuf tb) → BufTy
  | .hbm, ⟨0, _⟩ => ⟨S8x1024x256, .f32⟩
  | .hbm, ⟨1, _⟩ => ⟨S8x1024, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S1024x512, .f32⟩
  | .hbm, ⟨9, _⟩ => ⟨S512, .f32⟩
  | .hbm, ⟨10, _⟩ => ⟨S8192x256, .f32⟩
  | .hbm, ⟨11, _⟩ => ⟨S8192x512, .f32⟩
  | .hbm, ⟨12, _⟩ => ⟨S1x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x512, .f32⟩
  | .hbm, ⟨30, _⟩ => ⟨S8192x512, .f32⟩
  | .hbm, ⟨31, _⟩ => ⟨S8x512, .f32⟩
  | .hbm, ⟨32, _⟩ => ⟨S1x512, .f32⟩
  | .hbm, ⟨33, _⟩ => ⟨S8x512, .f32⟩
  | .hbm, ⟨34, _⟩ => ⟨S8x512, .f32⟩
  | .hbm, ⟨35, _⟩ => ⟨S8x1024x512, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8x1024, .f32⟩
  | .hbm, ⟨45, _⟩ => ⟨S_, .f32⟩
  | .hbm, ⟨46, _⟩ => ⟨S8, .f32⟩
  | .hbm, ⟨47, _⟩ => ⟨S8x1, .f32⟩
  | .hbm, ⟨48, _⟩ => ⟨S8x1024, .f32⟩
  | .hbm, ⟨49, _⟩ => ⟨S8x1024, .f32⟩
  | .hbm, ⟨50, _⟩ => ⟨S8x1024, .f32⟩
  | .hbm, ⟨51, _⟩ => ⟨S_, .f32⟩
  | .hbm, ⟨52, _⟩ => ⟨S8, .f32⟩
  | .hbm, ⟨53, _⟩ => ⟨S8x1, .f32⟩
  | .hbm, ⟨54, _⟩ => ⟨S8x1024, .f32⟩
  | .hbm, ⟨55, _⟩ => ⟨S8x1024, .f32⟩
  | .hbm, ⟨56, _⟩ => ⟨S8x1024x1, .f32⟩
  | .hbm, ⟨57, _⟩ => ⟨S8x1024x512, .f32⟩
  | .hbm, ⟨58, _⟩ => ⟨S8x1024x512, .f32⟩
  | .hbm, ⟨59, _⟩ => ⟨S8x1024x512, .f32⟩
  | .hbm, ⟨60, _⟩ => ⟨S_, .f32⟩
  | .hbm, ⟨61, _⟩ => ⟨S8x512, .f32⟩
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_cst : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Proof.KernelFrame.lean ====
/-
  The printed kernel runs, leaves its arguments as they were and ends with every semaphore counter at zero.

  The body is run once at symbolic operands: whatever its ten inputs, two outputs and three scratch buffers hold, it
  comes to its return with the inputs as they were and the rest at some contents. Nothing more is wanted for the frame,
  so the two output windows are forgotten and the scratch buffers are held at some contents between the points.
-/
module

public import proofs.«01_k».proof.Proof.Gen.Kernel.Frame
public import proofs.«01_k».proof.Proof.Gen.Kernel.Skeleton

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- Memref `M` owned by core `c`, reading `X`. -/
abbrev has (c : Dev nD) {sp : Space} {S : Shape} {e : EltTy} (M : Memref sig .tc sp S e) (X : S.Idx → Elt F e) : sProp 𝕄 :=
  owns (c : Thread nD τ) M fullShare X

/-- The body, from its fifteen operands at any contents, runs to its return; the ten inputs are as they were, the two
    outputs and the three scratch buffers hold something. -/
theorem body_run (c : Dev nD) (i : grid0.Coords)
    (M1 : Memref sig .tc .vmem S1x1024x256 .f32) (h1 : M1.IsWhole) (M2 : Memref sig .tc .vmem S8x1x1024 .f32) (h2 : M2.IsWhole)
    (M3 : Memref sig .tc .vmem S256x512 .f32) (h3 : M3.IsWhole) (M4 : Memref sig .tc .vmem S1x512 .f32) (h4 : M4.IsWhole)
    (M5 : Memref sig .tc .vmem S512x512 .f32) (h5 : M5.IsWhole) (M6 : Memref sig .tc .vmem S1x512 .f32) (h6 : M6.IsWhole)
    (M7 : Memref sig .tc .vmem S512x1024 .f32) (h7 : M7.IsWhole) (M8 : Memref sig .tc .vmem S1x1024 .f32) (h8 : M8.IsWhole)
    (M9 : Memref sig .tc .vmem S1024x512 .f32) (h9 : M9.IsWhole) (M10 : Memref sig .tc .vmem S1x512 .f32) (h10 : M10.IsWhole)
    (M11 : Memref sig .tc .vmem S8x512 .f32) (h11 : M11.IsWhole) (M12 : Memref sig .tc .vmem S8x1024 .f32) (h12 : M12.IsWhole)
    (M13 : Memref sig .tc .vmem S8x512 .f32) (h13 : M13.IsWhole) (M14 : Memref sig .tc .vmem S2x1024x512 .f32) (h14 : M14.IsWhole)
    (M15 : Memref sig .tc .vmem S2x1x1024 .f32) (h15 : M15.IsWhole)
    (X1 : Vec F S1x1024x256 .f32) (X2 : Vec F S8x1x1024 .f32) (X3 : Vec F S256x512 .f32) (X4 : Vec F S1x512 .f32)
    (X5 : Vec F S512x512 .f32) (X6 : Vec F S1x512 .f32) (X7 : Vec F S512x1024 .f32) (X8 : Vec F S1x1024 .f32)
    (X9 : Vec F S1024x512 .f32) (X10 : Vec F S1x512 .f32) (Q : PUnit → sProp 𝕄) :
    iprop(has c M1 X1 ∗ has c M2 X2 ∗ has c M3 X3 ∗ has c M4 X4 ∗ has c M5 X5 ∗ has c M6 X6 ∗ has c M7 X7 ∗ has c M8 X8
      ∗ has c M9 X9 ∗ has c M10 X10 ∗ (∃ X, has c M11 X) ∗ (∃ X, has c M12 X) ∗ (∃ X, has c M13 X) ∗ (∃ X, has c M14 X)
      ∗ (∃ X, has c M15 X)
      ∗ (iprop(has c M1 X1 ∗ has c M2 X2 ∗ has c M3 X3 ∗ has c M4 X4 ∗ has c M5 X5 ∗ has c M6 X6 ∗ has c M7 X7 ∗ has c M8 X8
          ∗ has c M9 X9 ∗ has c M10 X10 ∗ (∃ X, has c M11 X) ∗ (∃ X, has c M12 X) ∗ (∃ X, has c M13 X) ∗ (∃ X, has c M14 X)
          ∗ (∃ X, has c M15 X)) -∗ Q ⟨⟩))
    ⊢ wp frame (wpE (defs₀ (F := F)) Variants.none c none) Set.univ
        (cc0__fused_body i M1 h1 M2 h2 M3 h3 M4 h4 M5 h5 M6 h6 M7 h7 M8 h8 M9 h9 M10 h10 M11 h11 M12 h12 M13 h13 M14 h14 M15 h15) Q := by
  rw [cc0__fused_body_eq_skeleton]
  unfold cc0__fused_body_skel
  rw [k0_part1_eq_skeleton, k0_part2_eq_skeleton]
  unfold k0_part1_skel k0_part2_skel
  unfold has owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%Y11, %f11, %e11, H11⟩, ⟨%Y12, %f12, %e12, H12⟩, ⟨%Y13, %f13, %e13, H13⟩, ⟨%Y14, %f14, %e14, H14⟩, ⟨%Y15, %f15, %e15, H15⟩, Hk⟩
  sl_exec
  sl_step
  iapply Hk
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  isplitl [H8]
  · iexists f8; isplitr
    · ipureintro; exact e8
    iexact H8
  isplitl [H9]
  · iexists f9; isplitr
    · ipureintro; exact e9
    iexact H9
  isplitl [H10]
  · iexists f10; isplitr
    · ipureintro; exact e10
    iexact H10
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  iexists _; iexists _; isplitr
  swap; · iexact H15
  ipureintro; rfl

/-! ## The proof data -/

variable (m : (ℓ : Loc nD τ sig) → Buf (Elt F) ℓ) (ρ : Dev nD → PrngReg)

/-- The three scratch buffers: the queries, the values of two blocks, the logits of two blocks. -/
abbrev qM : Memref sig .tc .vmem S8x512 .f32 := Memref.whole cc0_scratch0
/-- The buffer of the two slots of values. -/
abbrev valM : Memref sig .tc .vmem S2x1024x512 .f32 := Memref.whole cc0_scratch1
/-- The buffer of the two slots of logits. -/
abbrev lgM : Memref sig .tc .vmem S2x1x1024 .f32 := Memref.whole cc0_scratch2

/-- The class invariant, spelt out: the three scratch buffers at some contents, and the generator register. -/
theorem PhiA_eq (c : Dev nD) :
    (Pipeline.ΦA spec0 c : sProp 𝕄)
      = iprop(iprop((∃ X, has (F := F) c qM X) ∗ (∃ X, has (F := F) c valM X) ∗ (∃ X, has (F := F) c lgM X)) ∗ ∃ r, prngReg c r) := by
  unfold Pipeline.ΦA; rw [scopedRest0_eq]
  simp only [has, owns_whole]
  rfl

/-- The data: each array as the region finds it, each input block left in place, the outputs (forgotten below) at
    anything, the class invariant between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => fun _ => Classical.arbitrary _
    | ⟨11, _⟩ => fun _ => Classical.arbitrary _
  Φ _ := Pipeline.ΦA spec0 c
  q _ := fullShare
  owed _ := 0

/-- The two outputs are forgotten. -/
def fgt : Fin cfg0.W → Bool := fun w => match w with
  | ⟨10, _⟩ => true
  | ⟨11, _⟩ => true
  | _ => false

/-- At the start each window's array holds what the program left in it. -/
theorem A_eq (c : Dev nD) (w : Fin cfg0.W) : (dats m 0 c).A w = V m c (Pipeline.arrRef spec0 w) := by
  dsimp only [dats]
/-- The body leaves window 0 as it found it: the objects' row of the point. -/
theorem after_0 (c : Dev nD) (t : Fin cfg0.N) : (dats m 0 c).after 0 t = iblk m c 0 t := by dsimp only [dats]
/-- The body leaves window 1 as it found it: the whole context. -/
theorem after_1 (c : Dev nD) (t : Fin cfg0.N) : (dats m 0 c).after 1 t = iblk m c 1 t := by dsimp only [dats]
/-- The body leaves window 2 as it found it: the first layer's weights. -/
theorem after_2 (c : Dev nD) (t : Fin cfg0.N) : (dats m 0 c).after 2 t = iblk m c 2 t := by dsimp only [dats]
/-- The body leaves window 3 as it found it: the first layer's bias. -/
theorem after_3 (c : Dev nD) (t : Fin cfg0.N) : (dats m 0 c).after 3 t = iblk m c 3 t := by dsimp only [dats]
/-- The body leaves window 4 as it found it: the second layer's weights. -/
theorem after_4 (c : Dev nD) (t : Fin cfg0.N) : (dats m 0 c).after 4 t = iblk m c 4 t := by dsimp only [dats]
/-- The body leaves window 5 as it found it: the second layer's bias. -/
theorem after_5 (c : Dev nD) (t : Fin cfg0.N) : (dats m 0 c).after 5 t = iblk m c 5 t := by dsimp only [dats]
/-- The body leaves window 6 as it found it: the weights of keys and values. -/
theorem after_6 (c : Dev nD) (t : Fin cfg0.N) : (dats m 0 c).after 6 t = iblk m c 6 t := by dsimp only [dats]
/-- The body leaves window 7 as it found it: the bias of keys and values. -/
theorem after_7 (c : Dev nD) (t : Fin cfg0.N) : (dats m 0 c).after 7 t = iblk m c 7 t := by dsimp only [dats]
/-- The body leaves window 8 as it found it: the query's weights. -/
theorem after_8 (c : Dev nD) (t : Fin cfg0.N) : (dats m 0 c).after 8 t = iblk m c 8 t := by dsimp only [dats]
/-- The body leaves window 9 as it found it: the query's bias. -/
theorem after_9 (c : Dev nD) (t : Fin cfg0.N) : (dats m 0 c).after 9 t = iblk m c 9 t := by dsimp only [dats]
/-- The body finds in window 0 the objects' row of the point. -/
theorem before_0 (c : Dev nD) (t : Fin cfg0.N) (d) : (dats m 0 c).before 0 t d = iblk m c 0 t :=
  before0_0_of m (dats m 0 c) (A_eq m c 0) (after_0 m c) t d
/-- The body finds in window 1 the whole context. -/
theorem before_1 (c : Dev nD) (t : Fin cfg0.N) (d) : (dats m 0 c).before 1 t d = iblk m c 1 t :=
  before0_1_of m (dats m 0 c) (A_eq m c 1) (after_1 m c) t d
/-- The body finds in window 2 the first layer's weights. -/
theorem before_2 (c : Dev nD) (t : Fin cfg0.N) (d) : (dats m 0 c).before 2 t d = iblk m c 2 t :=
  before0_2_of m (dats m 0 c) (A_eq m c 2) (after_2 m c) t d
/-- The body finds in window 3 the first layer's bias. -/
theorem before_3 (c : Dev nD) (t : Fin cfg0.N) (d) : (dats m 0 c).before 3 t d = iblk m c 3 t :=
  before0_3_of m (dats m 0 c) (A_eq m c 3) (after_3 m c) t d
/-- The body finds in window 4 the second layer's weights. -/
theorem before_4 (c : Dev nD) (t : Fin cfg0.N) (d) : (dats m 0 c).before 4 t d = iblk m c 4 t :=
  before0_4_of m (dats m 0 c) (A_eq m c 4) (after_4 m c) t d
/-- The body finds in window 5 the second layer's bias. -/
theorem before_5 (c : Dev nD) (t : Fin cfg0.N) (d) : (dats m 0 c).before 5 t d = iblk m c 5 t :=
  before0_5_of m (dats m 0 c) (A_eq m c 5) (after_5 m c) t d
/-- The body finds in window 6 the weights of keys and values. -/
theorem before_6 (c : Dev nD) (t : Fin cfg0.N) (d) : (dats m 0 c).before 6 t d = iblk m c 6 t :=
  before0_6_of m (dats m 0 c) (A_eq m c 6) (after_6 m c) t d
/-- The body finds in window 7 the bias of keys and values. -/
theorem before_7 (c : Dev nD) (t : Fin cfg0.N) (d) : (dats m 0 c).before 7 t d = iblk m c 7 t :=
  before0_7_of m (dats m 0 c) (A_eq m c 7) (after_7 m c) t d
/-- The body finds in window 8 the query's weights. -/
theorem before_8 (c : Dev nD) (t : Fin cfg0.N) (d) : (dats m 0 c).before 8 t d = iblk m c 8 t :=
  before0_8_of m (dats m 0 c) (A_eq m c 8) (after_8 m c) t d
/-- The body finds in window 9 the query's bias. -/
theorem before_9 (c : Dev nD) (t : Fin cfg0.N) (d) : (dats m 0 c).before 9 t d = iblk m c 9 t :=
  before0_9_of m (dats m 0 c) (A_eq m c 9) (after_9 m c) t d

/-- The body that the grid runs at point `t` is the printed body at that point. -/
theorem body_row (t : Fin cfg0.N) :
    defs₀ (F := F) .tc cfg0.body (cfg0.bodyArgs t (cfg0.slots t)) = bodyAt0 t := by
  unfold defs₀; rw [Defs.onTc_tc]

/-- What the body is handed at point `t`. -/
def bodyPre (c : Dev nD) (t : Fin cfg0.N) : sProp 𝕄 :=
  iprop((dats m 0 c).Φ t.castSucc ∗ (dats m 0 c).owesAt () t.castSucc
    ∗ (∃ d, has c (st0_0 t) ((dats m 0 c).before 0 t d))
    ∗ (∃ d, has c (st0_1 t) ((dats m 0 c).before 1 t d))
    ∗ (∃ d, has c (st0_2 t) ((dats m 0 c).before 2 t d))
    ∗ (∃ d, has c (st0_3 t) ((dats m 0 c).before 3 t d))
    ∗ (∃ d, has c (st0_4 t) ((dats m 0 c).before 4 t d))
    ∗ (∃ d, has c (st0_5 t) ((dats m 0 c).before 5 t d))
    ∗ (∃ d, has c (st0_6 t) ((dats m 0 c).before 6 t d))
    ∗ (∃ d, has c (st0_7 t) ((dats m 0 c).before 7 t d))
    ∗ (∃ d, has c (st0_8 t) ((dats m 0 c).before 8 t d))
    ∗ (∃ d, has c (st0_9 t) ((dats m 0 c).before 9 t d))
    ∗ (∃ X, has c (st0_10 t) X) ∗ (∃ X, has c (st0_11 t) X))
/-- What the body hands back at point `t`. -/
def bodyPost (c : Dev nD) (t : Fin cfg0.N) : sProp 𝕄 :=
  iprop((dats m 0 c).Φ t.succ ∗ (dats m 0 c).owesAt () t.succ
    ∗ has c (st0_0 t) ((dats m 0 c).after 0 t)
    ∗ has c (st0_1 t) ((dats m 0 c).after 1 t)
    ∗ has c (st0_2 t) ((dats m 0 c).after 2 t)
    ∗ has c (st0_3 t) ((dats m 0 c).after 3 t)
    ∗ has c (st0_4 t) ((dats m 0 c).after 4 t)
    ∗ has c (st0_5 t) ((dats m 0 c).after 5 t)
    ∗ has c (st0_6 t) ((dats m 0 c).after 6 t)
    ∗ has c (st0_7 t) ((dats m 0 c).after 7 t)
    ∗ has c (st0_8 t) ((dats m 0 c).after 8 t)
    ∗ has c (st0_9 t) ((dats m 0 c).after 9 t)
    ∗ (∃ X, has c (st0_10 t) X) ∗ (∃ X, has c (st0_11 t) X))

/-- The body at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl, PhiA_eq]
  rw [show (dats m 0 c).owesAt () t.succ = (dats m 0 c).owesAt () t.castSucc from rfl]
  simp only [before_0 m c t, before_1 m c t, before_2 m c t, before_3 m c t, before_4 m c t, before_5 m c t, before_6 m c t, before_7 m c t, before_8 m c t, before_9 m c t, after_0 m c t, after_1 m c t, after_2 m c t, after_3 m c t, after_4 m c t, after_5 m c t, after_6 m c t, after_7 m c t, after_8 m c t, after_9 m c t]
  iintro ⟨⟨⟨HS0, HS1, HS2⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply body_run
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨K0, K1, K2, K3, K4, K5, K6, K7, K8, K9, K10, K11, KS0, KS1, KS2⟩
  isplitl [KS0 KS1 KS2 Hg]
  · isplitl [KS0 KS1 KS2]
    · isplitl [KS0]; · iexact KS0
      isplitl [KS1]; · iexact KS1
      iexact KS2
    iexact Hg
  isplitl [HO]; · iexact HO
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  iexact K11

/-- The body obligation, the two outputs forgotten. -/
theorem body_obligation (c : Dev nD) :
    BodyObligationLoose (dats (F := F) m 0 c) (defs₀ (F := F)) Variants.none () Set.univ fgt := fun t => by
  rw [bigSep_W0, bigSep_W0, body_row]
  exact triple_restated (sound_body m c t) rfl .rfl fun _ => .rfl

set_option backward.isDefEq.respectTransparency.types false in
/-- The frame of the kernel: it runs, its arguments end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_frame_forget cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m)
    (hΦ := fun _ _ => rfl)
    (Q' := _) (hQ' := fun r h => ⟨fun c => ⟨
      (Pipeline.RDat.FramePost.arr_in h.1 c 0 rfl).trans (V_main_arg0 m c),
      ((h.1 c).2 main_arg1 (Pipeline.mem_restRefs_of main_arg1 (by decide) (by decide))).trans (V_main_arg1 m c),
      (Pipeline.RDat.FramePost.arr_in h.1 c 2 rfl).trans (V_main_arg2 m c),
      ((h.1 c).2 main_arg3 (Pipeline.mem_restRefs_of main_arg3 (by decide) (by decide))).trans (V_main_arg3 m c),
      (Pipeline.RDat.FramePost.arr_in h.1 c 4 rfl).trans (V_main_arg4 m c),
      ((h.1 c).2 main_arg5 (Pipeline.mem_restRefs_of main_arg5 (by decide) (by decide))).trans (V_main_arg5 m c),
      (Pipeline.RDat.FramePost.arr_in h.1 c 6 rfl).trans (V_main_arg6 m c),
      ((h.1 c).2 main_arg7 (Pipeline.mem_restRefs_of main_arg7 (by decide) (by decide))).trans (V_main_arg7 m c),
      (Pipeline.RDat.FramePost.arr_in h.1 c 8 rfl).trans (V_main_arg8 m c),
      ((h.1 c).2 main_arg9 (Pipeline.mem_restRefs_of main_arg9 (by decide) (by decide))).trans (V_main_arg9 m c)⟩, h.2⟩)

end Cert.Kernel.Hand

end
-- ==== Proof.Body.lean ====
/-
  What one pass of the body computes, from its fifteen operands at any values.

  The body is run at symbolic operands. Its three scratch buffers are the queries of all eight rows, the values of two
  blocks and the logits of two blocks; its two outputs are whole arrays. A pass writes one row of each output from the
  slot of the scratch the pass before it filled, fills the other slot from its own block, and, on the last pass, writes
  the last row of each output from the slot just filled. The first pass computes the queries beforehand.
-/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄" => MT nD τ sig Unit (Elt F) ℕ (UR sig nD τ) ℕ

/-- Memref `M` owned by core `c`, reading `X`. -/
abbrev has (c : Dev nD) {sp : Space} {S : Shape} {e : EltTy} (M : Memref sig .tc sp S e) (X : S.Idx → Elt F e) : sProp 𝕄 :=
  owns (c : Thread nD τ) M fullShare X

/-- The test of the pass that computes the queries. -/
abbrev isFirst (i : grid0.Coords) : BitVec 1 :=
  Scalar.cmpi .ne (Scalar.extui (Scalar.cmpi .eq (BitVec.ofNat 32 (i 0).val) 0#32)) 0#32

/-- The query buffer after a pass: computed on the first pass, kept on the others. -/
def qOut (i : grid0.Coords) (X2 : Vec F S8x1x1024 .f32) (X9 : Vec F S1024x512 .f32) (X10 : Vec F S1x512 .f32) (Y13 : Vec F S8x512 .f32) :
    Vec F S8x512 .f32 :=
  if isFirst i = 1#1 then k0_pay3 X2 X9 X10 else Y13

/-- The embedding row of a block, from its logits and its values. -/
def embRow (lg : Vec F S1x1x1024 .f32) (vl : Vec F S1x1024x512 .f32) : Vec F S1x512 .f32 := k0_pay2 lg vl

/-- The weight row of a block, from its logits. -/
def wRow (lg : Vec F S1x1x1024 .f32) : Vec F S1x1024 .f32 := k0_pay1 lg

/-- The logits buffer's slot the pass before filled. -/
def oldLg (i : grid0.Coords) (Y15 : Vec F S2x1x1024 .f32) : Vec F S1x1x1024 .f32 :=
  window Y15 (k0_off1 i) S1x1x1024.size (k0_off1_inb i)

/-- The value buffer's slot the pass before filled. -/
def oldVal (i : grid0.Coords) (Y14 : Vec F S2x1024x512 .f32) : Vec F S1x1024x512 .f32 :=
  window Y14 (k0_off2 i) S1x1024x512.size (k0_off2_inb i)

/-- Row `i` of the queries. -/
def qRow (i : grid0.Coords) (q : Vec F S8x512 .f32) : Vec F S1x512 .f32 := window q (k0_off5 i) S1x512.size (k0_off5_inb i)

/-- The embedding array after a pass. -/
def embOut (i : grid0.Coords) (Y11 : Vec F S8x512 .f32) (lgO : Vec F S1x1x1024 .f32) (vlO : Vec F S1x1024x512 .f32)
    (lgN : Vec F S1x1x1024 .f32) (vlN : Vec F S1x1024x512 .f32) : Vec F S8x512 .f32 :=
  if k0_cond2 i = 1#1 then
    put (put Y11 (k0_off3 i) S1x512.size (embRow lgO vlO)) ![7, 0] S1x512.size (embRow lgN vlN)
  else put Y11 (k0_off3 i) S1x512.size (embRow lgO vlO)

/-- The weight array after a pass. -/
def wOut (i : grid0.Coords) (Y12 : Vec F S8x1024 .f32) (lgO lgN : Vec F S1x1x1024 .f32) : Vec F S8x1024 .f32 :=
  if k0_cond2 i = 1#1 then
    put (put Y12 (k0_off4 i) S1x1024.size (wRow lgO)) ![7, 0] S1x1024.size (wRow lgN)
  else put Y12 (k0_off4 i) S1x1024.size (wRow lgO)

/-- The values of the pass's own block. -/
def newVal (X1 : Vec F S1x1024x256 .f32) (X3 : Vec F S256x512 .f32) (X4 : Vec F S1x512 .f32) (X5 : Vec F S512x512 .f32)
    (X6 : Vec F S1x512 .f32) (X7 : Vec F S512x1024 .f32) (X8 : Vec F S1x1024 .f32) : Vec F S1x1024x512 .f32 :=
  k0_pay9 (k0_pay4 X1 X3 X4) X5 X6 X7 X8

/-- The logits of the pass's own block, at a row of the queries. -/
def newLg (X1 : Vec F S1x1024x256 .f32) (X3 : Vec F S256x512 .f32) (X4 : Vec F S1x512 .f32) (X5 : Vec F S512x512 .f32)
    (X6 : Vec F S1x512 .f32) (X7 : Vec F S512x1024 .f32) (X8 : Vec F S1x1024 .f32) (q : Vec F S1x512 .f32) : Vec F S1x1x1024 .f32 :=
  k0_pay10 (k0_pay4 X1 X3 X4) X5 X6 X7 X8 q

/-- A load of a slice just stored reads the payload. -/
theorem readAt_same {sp : Space} {s : Shape} {e : EltTy} (v : View sig .tc sp s e) (f : v.ty.Contents (Elt F)) {off off' size : Fin s.rank → ℕ}
    (inb : ∀ a, off a + size a ≤ s.size a) (inb' : ∀ a, off' a + size a ≤ s.size a)
    (w : (Rect.unit off' size inb').shape.Idx → Elt F e) (L : List (View.Piece (Elt F) s e)) (h : off = off') :
    v.readAt (Elt F) (Rect.unit off size inb).toLoadRect (v.writes (Elt F) f (⟨Rect.unit off' size inb', w⟩ :: L)) = w := by
  subst h
  rw [View.readAt_unit v _ inb rfl inb, View.read_writes_cons_put v _ inb w L rfl, VecWindow.window_put_same]

/-- A load of a slice reads a window. -/
theorem readAt_window {sp : Space} {s : Shape} {e : EltTy} (v : View sig .tc sp s e) (f : v.ty.Contents (Elt F)) {off size : Fin s.rank → ℕ}
    (inb : ∀ a, off a + size a ≤ s.size a) :
    v.readAt (Elt F) (Rect.unit off size inb).toLoadRect f = window (v.read (Elt F) f) off size inb :=
  View.readAt_unit v f inb rfl inb

/-- The same load over the stores alone. -/
theorem readCov_same {sp : Space} {s : Shape} {e : EltTy} (v : View sig .tc sp s e) {off off' size : Fin s.rank → ℕ}
    (inb : ∀ a, off a + size a ≤ s.size a) (inb' : ∀ a, off' a + size a ≤ s.size a)
    (w : (Rect.unit off' size inb').shape.Idx → Elt F e) (L : List (View.Piece (Elt F) s e)) (h : off = off') :
    v.readCov (⟨Rect.unit off' size inb', w⟩ :: L) (Rect.unit off size inb).toLoadRect = w :=
  readAt_same v v.junk inb inb' w L h

/-- The last tail reads its logits in the slot where the body has just written them. -/
theorem off8_eq (i : grid0.Coords) : k0_off8 i = k0_off7 i := rfl
/-- The last tail reads its values in the slot where the body has just written them. -/
theorem off9_eq (i : grid0.Coords) : k0_off9 i = k0_off6 i := rfl

/-- At the first point the query buffer becomes the queries. -/
theorem qOut_pos {i : grid0.Coords} (h : isFirst i = 1#1) (X2 : Vec F S8x1x1024 .f32) (X9 : Vec F S1024x512 .f32) (X10 : Vec F S1x512 .f32)
    (Y13 : Vec F S8x512 .f32) : qOut i X2 X9 X10 Y13 = k0_pay3 X2 X9 X10 := if_pos h
/-- At every other point the query buffer stays. -/
theorem qOut_neg {i : grid0.Coords} (h : ¬ isFirst i = 1#1) (X2 : Vec F S8x1x1024 .f32) (X9 : Vec F S1024x512 .f32) (X10 : Vec F S1x512 .f32)
    (Y13 : Vec F S8x512 .f32) : qOut i X2 X9 X10 Y13 = Y13 := if_neg h
/-- At the last point two rows of the embeddings are written: the row before and the last. -/
theorem embOut_pos {i : grid0.Coords} (h : k0_cond2 i = 1#1) (Y11 : Vec F S8x512 .f32) (lgO : Vec F S1x1x1024 .f32)
    (vlO : Vec F S1x1024x512 .f32) (lgN : Vec F S1x1x1024 .f32) (vlN : Vec F S1x1024x512 .f32) :
    embOut i Y11 lgO vlO lgN vlN = put (put Y11 (k0_off3 i) S1x512.size (embRow lgO vlO)) ![7, 0] S1x512.size (embRow lgN vlN) := if_pos h
/-- At every other point one row of the embeddings is written. -/
theorem embOut_neg {i : grid0.Coords} (h : ¬ k0_cond2 i = 1#1) (Y11 : Vec F S8x512 .f32) (lgO : Vec F S1x1x1024 .f32)
    (vlO : Vec F S1x1024x512 .f32) (lgN : Vec F S1x1x1024 .f32) (vlN : Vec F S1x1024x512 .f32) :
    embOut i Y11 lgO vlO lgN vlN = put Y11 (k0_off3 i) S1x512.size (embRow lgO vlO) := if_neg h
/-- At the last point two rows of the weights are written: the row before and the last. -/
theorem wOut_pos {i : grid0.Coords} (h : k0_cond2 i = 1#1) (Y12 : Vec F S8x1024 .f32) (lgO lgN : Vec F S1x1x1024 .f32) :
    wOut i Y12 lgO lgN = put (put Y12 (k0_off4 i) S1x1024.size (wRow lgO)) ![7, 0] S1x1024.size (wRow lgN) := if_pos h
/-- At every other point one row of the weights is written. -/
theorem wOut_neg {i : grid0.Coords} (h : ¬ k0_cond2 i = 1#1) (Y12 : Vec F S8x1024 .f32) (lgO lgN : Vec F S1x1x1024 .f32) :
    wOut i Y12 lgO lgN = put Y12 (k0_off4 i) S1x1024.size (wRow lgO) := if_neg h

set_option maxHeartbeats 1600000 in
/-- The body, from its fifteen operands at any values, runs to its return; the ten inputs are as they were, the two
    outputs and the three scratch buffers hold the values above. -/
theorem body_run (c : Dev nD) (i : grid0.Coords) (hfl : ¬ (isFirst i = 1#1 ∧ k0_cond2 i = 1#1))
    (M1 : Memref sig .tc .vmem S1x1024x256 .f32) (h1 : M1.IsWhole) (M2 : Memref sig .tc .vmem S8x1x1024 .f32) (h2 : M2.IsWhole)
    (M3 : Memref sig .tc .vmem S256x512 .f32) (h3 : M3.IsWhole) (M4 : Memref sig .tc .vmem S1x512 .f32) (h4 : M4.IsWhole)
    (M5 : Memref sig .tc .vmem S512x512 .f32) (h5 : M5.IsWhole) (M6 : Memref sig .tc .vmem S1x512 .f32) (h6 : M6.IsWhole)
    (M7 : Memref sig .tc .vmem S512x1024 .f32) (h7 : M7.IsWhole) (M8 : Memref sig .tc .vmem S1x1024 .f32) (h8 : M8.IsWhole)
    (M9 : Memref sig .tc .vmem S1024x512 .f32) (h9 : M9.IsWhole) (M10 : Memref sig .tc .vmem S1x512 .f32) (h10 : M10.IsWhole)
    (M11 : Memref sig .tc .vmem S8x512 .f32) (h11 : M11.IsWhole) (M12 : Memref sig .tc .vmem S8x1024 .f32) (h12 : M12.IsWhole)
    (M13 : Memref sig .tc .vmem S8x512 .f32) (h13 : M13.IsWhole) (M14 : Memref sig .tc .vmem S2x1024x512 .f32) (h14 : M14.IsWhole)
    (M15 : Memref sig .tc .vmem S2x1x1024 .f32) (h15 : M15.IsWhole)
    (X1 : Vec F S1x1024x256 .f32) (X2 : Vec F S8x1x1024 .f32) (X3 : Vec F S256x512 .f32) (X4 : Vec F S1x512 .f32)
    (X5 : Vec F S512x512 .f32) (X6 : Vec F S1x512 .f32) (X7 : Vec F S512x1024 .f32) (X8 : Vec F S1x1024 .f32)
    (X9 : Vec F S1024x512 .f32) (X10 : Vec F S1x512 .f32)
    (Y11 : Vec F S8x512 .f32) (Y12 : Vec F S8x1024 .f32) (Y13 : Vec F S8x512 .f32) (Y14 : Vec F S2x1024x512 .f32) (Y15 : Vec F S2x1x1024 .f32)
    (Q : PUnit → sProp 𝕄) :
    iprop(has c M1 X1 ∗ has c M2 X2 ∗ has c M3 X3 ∗ has c M4 X4 ∗ has c M5 X5 ∗ has c M6 X6 ∗ has c M7 X7 ∗ has c M8 X8
      ∗ has c M9 X9 ∗ has c M10 X10 ∗ has c M11 Y11 ∗ has c M12 Y12 ∗ has c M13 Y13 ∗ has c M14 Y14
      ∗ has c M15 Y15
      ∗ (iprop(has c M1 X1 ∗ has c M2 X2 ∗ has c M3 X3 ∗ has c M4 X4 ∗ has c M5 X5 ∗ has c M6 X6 ∗ has c M7 X7 ∗ has c M8 X8
          ∗ has c M9 X9 ∗ has c M10 X10 ∗ has c M11 (embOut i Y11 (oldLg i Y15) (oldVal i Y14)
            (newLg X1 X3 X4 X5 X6 X7 X8 (qRow i (qOut i X2 X9 X10 Y13))) (newVal X1 X3 X4 X5 X6 X7 X8)) ∗ has c M12 (wOut i Y12 (oldLg i Y15) (newLg X1 X3 X4 X5 X6 X7 X8 (qRow i (qOut i X2 X9 X10 Y13)))) ∗ has c M13 (qOut i X2 X9 X10 Y13) ∗ has c M14 (put Y14 (k0_off6 i) S1x1024x512.size (newVal X1 X3 X4 X5 X6 X7 X8))
          ∗ has c M15 (put Y15 (k0_off7 i) S1x1x1024.size
            (newLg X1 X3 X4 X5 X6 X7 X8 (qRow i (qOut i X2 X9 X10 Y13))))) -∗ Q ⟨⟩))
    ⊢ wp frame (wpE (defs₀ (F := F)) Variants.none c none) Set.univ
        (cc0__fused_body i M1 h1 M2 h2 M3 h3 M4 h4 M5 h5 M6 h6 M7 h7 M8 h8 M9 h9 M10 h10 M11 h11 M12 h12 M13 h13 M14 h14 M15 h15) Q := by
  rw [cc0__fused_body_eq_skeleton]
  unfold cc0__fused_body_skel
  rw [k0_part1_eq_skeleton, k0_part2_eq_skeleton]
  unfold k0_part1_skel k0_part2_skel
  unfold has owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  subst e1; subst e2; subst e3; subst e4; subst e5; subst e6; subst e7; subst e8; subst e9; subst e10
  subst e11; subst e12; subst e13; subst e14; subst e15
  by_cases hfirst : isFirst i = 1#1 <;> by_cases hlast : k0_cond2 i = 1#1
  · exact absurd ⟨hfirst, hlast⟩ hfl
  all_goals
    sl_exec
    sl_step
    iapply Hk
    first | rw [qOut_pos hfirst] | rw [qOut_neg hfirst]
    first | rw [embOut_pos hlast, wOut_pos hlast] | rw [embOut_neg hlast, wOut_neg hlast]
    isplitl [H1]
    · iexists f1; isplitr
      · ipureintro; rfl
      iexact H1
    isplitl [H2]
    · iexists f2; isplitr
      · ipureintro; rfl
      iexact H2
    isplitl [H3]
    · iexists f3; isplitr
      · ipureintro; rfl
      iexact H3
    isplitl [H4]
    · iexists f4; isplitr
      · ipureintro; rfl
      iexact H4
    isplitl [H5]
    · iexists f5; isplitr
      · ipureintro; rfl
      iexact H5
    isplitl [H6]
    · iexists f6; isplitr
      · ipureintro; rfl
      iexact H6
    isplitl [H7]
    · iexists f7; isplitr
      · ipureintro; rfl
      iexact H7
    isplitl [H8]
    · iexists f8; isplitr
      · ipureintro; rfl
      iexact H8
    isplitl [H9]
    · iexists f9; isplitr
      · ipureintro; rfl
      iexact H9
    isplitl [H10]
    · iexists f10; isplitr
      · ipureintro; rfl
      iexact H10
    isplitl [H11]
    · iexists _; isplitr
      swap; · iexact H11
      ipureintro
      try sl_unfold_run_names
      repeat first | rw [readCov_same (s := S2x1x1024) _ _ _ _ _ (off8_eq i)] | rw [readCov_same (s := S2x1024x512) _ _ _ _ _ (off9_eq i)] | rw [View.readAt_full] | rw [View.read_writes_full] | rw [readAt_window] | rw [View.read_writes_cons_put _ _ _ _ _ rfl]
      try rfl
    isplitl [H12]
    · iexists _; isplitr
      swap; · iexact H12
      ipureintro
      try sl_unfold_run_names
      repeat first | rw [readCov_same (s := S2x1x1024) _ _ _ _ _ (off8_eq i)] | rw [readCov_same (s := S2x1024x512) _ _ _ _ _ (off9_eq i)] | rw [View.readAt_full] | rw [View.read_writes_full] | rw [readAt_window] | rw [View.read_writes_cons_put _ _ _ _ _ rfl]
      try rfl
    isplitl [H13]
    · iexists _; isplitr
      swap; · iexact H13
      ipureintro
      try sl_unfold_run_names
      repeat first | rw [readCov_same (s := S2x1x1024) _ _ _ _ _ (off8_eq i)] | rw [readCov_same (s := S2x1024x512) _ _ _ _ _ (off9_eq i)] | rw [View.readAt_full] | rw [View.read_writes_full] | rw [readAt_window] | rw [View.read_writes_cons_put _ _ _ _ _ rfl]
      try rfl
    isplitl [H14]
    · iexists _; isplitr
      swap; · iexact H14
      ipureintro
      try sl_unfold_run_names
      repeat first | rw [readCov_same (s := S2x1x1024) _ _ _ _ _ (off8_eq i)] | rw [readCov_same (s := S2x1024x512) _ _ _ _ _ (off9_eq i)] | rw [View.readAt_full] | rw [View.read_writes_full] | rw [readAt_window] | rw [View.read_writes_cons_put _ _ _ _ _ rfl]
      try rfl
    iexists _; isplitr
    swap; · iexact H15
    ipureintro
    try sl_unfold_run_names
    repeat first | rw [readCov_same (s := S2x1x1024) _ _ _ _ _ (off8_eq i)] | rw [readCov_same (s := S2x1024x512) _ _ _ _ _ (off9_eq i)] | rw [View.readAt_full] | rw [View.read_writes_full] | rw [readAt_window] | rw [View.read_writes_cons_put _ _ _ _ _ rfl]
    try rfl

end Cert.KernelIdeal.Hand
-- ==== Proof.Run.lean ====
/-
  The whole kernel: what its two result arrays hold after the run.

  Between two passes the query buffer holds all queries, and one slot of the value and of the logits buffer holds what the
  last pass computed of its block. Of the two outputs it is known that the rows below the pass's number are right, and
  after the last pass that all are. Each output is one block, written back once, after the last pass.
-/
module

public import proofs.«01_k».proof.Proof.Gen.KernelIdeal.Frame
public import proofs.«01_k».proof.Proof.Body
public import Idealize.ShloMosaic.Lib.Pipeline.ArrRel
public import Idealize.ShloMosaic.Lib.Pipeline.DatRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)
open Idealize.ShloMosaic.VecWindow (window put)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The rows -/

/-- The first point of the grid. -/
abbrev first0 : Fin cfg0.N := ⟨0, by decide⟩

/-- The queries of all rows. -/
def queries (c : Dev nD) : Vec F S8x512 .f32 := k0_pay3 (iblk m c 1 first0) (iblk m c 8 first0) (iblk m c 9 first0)

/-- The values of block `t`. -/
def vals (c : Dev nD) (t : Fin cfg0.N) : Vec F S1x1024x512 .f32 :=
  newVal (iblk m c 0 t) (iblk m c 2 t) (iblk m c 3 t) (iblk m c 4 t) (iblk m c 5 t) (iblk m c 6 t) (iblk m c 7 t)

/-- The logits of block `t`. -/
def lgts (c : Dev nD) (t : Fin cfg0.N) : Vec F S1x1x1024 .f32 :=
  newLg (iblk m c 0 t) (iblk m c 2 t) (iblk m c 3 t) (iblk m c 4 t) (iblk m c 5 t) (iblk m c 6 t) (iblk m c 7 t)
    (qRow (cfg0.grid.coords t) (queries m c))

/-- Row `t` of the embedding. -/
def rowE (c : Dev nD) (t : Fin cfg0.N) : Vec F S1x512 .f32 := embRow (lgts m c t) (vals m c t)

/-- Row `t` of the weights. -/
def rowW (c : Dev nD) (t : Fin cfg0.N) : Vec F S1x1024 .f32 := wRow (lgts m c t)

/-! ## The offsets and the conditions of a pass -/

theorem first_iff : ∀ t : Fin cfg0.N, isFirst (cfg0.grid.coords t) = 1#1 ↔ t.val = 0 := by decide +kernel
/-- The body's last condition holds at point 7 alone. -/
theorem last_iff : ∀ t : Fin cfg0.N, k0_cond2 (cfg0.grid.coords t) = 1#1 ↔ t.val = 7 := by decide +kernel
/-- At point `t` the tail writes the embedding's row `t - 1`, row 0 at the first point. -/
theorem off3_eq : ∀ t : Fin cfg0.N, k0_off3 (cfg0.grid.coords t) = ![t.val - 1, 0] := by decide +kernel
/-- At point `t` the tail writes the weights' row `t - 1`, row 0 at the first point. -/
theorem off4_eq : ∀ t : Fin cfg0.N, k0_off4 (cfg0.grid.coords t) = ![t.val - 1, 0] := by decide +kernel
/-- The tail reads its values in the slot that the point before wrote. -/
theorem off2_eq : ∀ t u : Fin cfg0.N, t.val = u.val + 1 → k0_off2 (cfg0.grid.coords t) = k0_off6 (cfg0.grid.coords u) := by decide +kernel
/-- The tail reads its logits in the slot that the point before wrote. -/
theorem off1_eq : ∀ t u : Fin cfg0.N, t.val = u.val + 1 → k0_off1 (cfg0.grid.coords t) = k0_off7 (cfg0.grid.coords u) := by decide +kernel
/-- The grid has eight points. -/
theorem lt8 (t : Fin cfg0.N) : t.val < 8 := t.isLt
/-- No point is both the first and the last. -/
theorem not_both (t : Fin cfg0.N) : ¬ (isFirst (cfg0.grid.coords t) = 1#1 ∧ k0_cond2 (cfg0.grid.coords t) = 1#1) := fun h => by
  have h1 := (first_iff t).mp h.1
  have h2 := (last_iff t).mp h.2
  omega

/-- A window at equal offsets. -/
theorem window_congr {α : Type} {s : Shape} (x : s.Idx → α) {off off' size : Fin s.rank → ℕ} (h : off = off')
    (inb : ∀ a, off a + size a ≤ s.size a) (inb' : ∀ a, off' a + size a ≤ s.size a) :
    window x off size inb = window x off' size inb' := by subst h; rfl

/-- The window just put, at equal offsets. -/
theorem window_put_eq {α : Type} {s : Shape} (x : s.Idx → α) {off off' size : Fin s.rank → ℕ} (h : off = off')
    (inb' : ∀ a, off' a + size a ≤ s.size a) (w : ((a : Fin s.rank) → Fin (size a)) → α) :
    window (put x off size w) off' size inb' = w := by subst h; exact VecWindow.window_put_same x off size inb' w

/-- Every row of the embeddings lies inside their array. -/
theorem inbE (r : Fin cfg0.N) : ∀ a, (![r.val, 0] : Fin 2 → ℕ) a + S1x512.size a ≤ S8x512.size a := by
  revert r; decide +kernel
/-- Every row of the weights lies inside their array. -/
theorem inbW (r : Fin cfg0.N) : ∀ a, (![r.val, 0] : Fin 2 → ℕ) a + S1x1024.size a ≤ S8x1024.size a := by
  revert r; decide +kernel

/-! ## The invariant -/

/-- What the scratch buffers hold before point `n`: nothing is known before the first. -/
def Inv (c : Dev nD) (n : ℕ) (Yq : Vec F S8x512 .f32) (Yv : Vec F S2x1024x512 .f32) (Yl : Vec F S2x1x1024 .f32) : Prop :=
  ∀ u : Fin cfg0.N, n = u.val + 1 → Yq = queries m c
    ∧ window Yv (k0_off6 (cfg0.grid.coords u)) S1x1024x512.size (k0_off6_inb _) = vals m c u
    ∧ window Yl (k0_off7 (cfg0.grid.coords u)) S1x1x1024.size (k0_off7_inb _) = lgts m c u

/-- The rows of an embedding array that are right after point `t`. -/
def RightE (c : Dev nD) (t : Fin cfg0.N) (X : Vec F S8x512 .f32) : Prop :=
  ∀ r : Fin cfg0.N, (r.val < t.val ∨ t.val = 7) → window X ![r.val, 0] S1x512.size (inbE r) = rowE m c r

/-- The rows of a weight array that are right after point `t`. -/
def RightW (c : Dev nD) (t : Fin cfg0.N) (X : Vec F S8x1024 .f32) : Prop :=
  ∀ r : Fin cfg0.N, (r.val < t.val ∨ t.val = 7) → window X ![r.val, 0] S1x1024.size (inbW r) = rowW m c r

variable {m}

/-- After a pass the query buffer holds the queries. -/
theorem step_q {c : Dev nD} {t : Fin cfg0.N} {Yq : Vec F S8x512 .f32} {Yv : Vec F S2x1024x512 .f32} {Yl : Vec F S2x1x1024 .f32}
    (h : Inv m c t.val Yq Yv Yl) :
    qOut (cfg0.grid.coords t) (iblk m c 1 t) (iblk m c 8 t) (iblk m c 9 t) Yq = queries m c := by
  by_cases h0 : t.val = 0
  · rw [qOut_pos ((first_iff t).mpr h0)]
    obtain rfl : t = first0 := Fin.ext h0
    rfl
  · rw [qOut_neg fun hf => h0 ((first_iff t).mp hf)]
    exact (h ⟨t.val - 1, by have := t.isLt; omega⟩ (by show t.val = t.val - 1 + 1; omega)).1

/-- After a pass the scratch buffers hold the queries and the pass's block. -/
theorem step_inv {c : Dev nD} (t : Fin cfg0.N) (Yv : Vec F S2x1024x512 .f32) (Yl : Vec F S2x1x1024 .f32) :
    Inv m c (t.val + 1) (queries m c) (put Yv (k0_off6 (cfg0.grid.coords t)) S1x1024x512.size (vals m c t))
      (put Yl (k0_off7 (cfg0.grid.coords t)) S1x1x1024.size (lgts m c t)) := fun u hu => by
  obtain rfl : u = t := Fin.ext (by omega)
  exact ⟨rfl, VecWindow.window_put_same _ _ _ _ _, VecWindow.window_put_same _ _ _ _ _⟩

/-- The slots a pass reads hold the block before it. -/
theorem old_eq {c : Dev nD} {t : Fin cfg0.N} {Yq : Vec F S8x512 .f32} {Yv : Vec F S2x1024x512 .f32} {Yl : Vec F S2x1x1024 .f32}
    (h : Inv m c t.val Yq Yv Yl) (u : Fin cfg0.N) (hu : t.val = u.val + 1) :
    oldLg (cfg0.grid.coords t) Yl = lgts m c u ∧ oldVal (cfg0.grid.coords t) Yv = vals m c u :=
  ⟨(window_congr Yl (off1_eq t u hu) _ _).trans (h u hu).2.2, (window_congr Yv (off2_eq t u hu) _ _).trans (h u hu).2.1⟩

/-- The rows of the embedding after a pass. -/
theorem step_E {c : Dev nD} {t : Fin cfg0.N} {Yq : Vec F S8x512 .f32} {Yv : Vec F S2x1024x512 .f32} {Yl : Vec F S2x1x1024 .f32}
    (h : Inv m c t.val Yq Yv Yl) (Y : Vec F S8x512 .f32) (hY : ∀ u : Fin cfg0.N, t.val = u.val + 1 → RightE m c u Y) :
    RightE m c t (embOut (cfg0.grid.coords t) Y (oldLg (cfg0.grid.coords t) Yl) (oldVal (cfg0.grid.coords t) Yv)
      (lgts m c t) (vals m c t)) := fun r hr => by
  have ht := lt8 t
  have hr8 := lt8 r
  have h0 : t.val ≠ 0 := by omega
  have hu : t.val = (⟨t.val - 1, by omega⟩ : Fin cfg0.N).val + 1 := by show t.val = t.val - 1 + 1; omega
  obtain ⟨hl, hv⟩ := old_eq h ⟨t.val - 1, by omega⟩ hu
  have hbelow : ∀ r : Fin cfg0.N, r.val < t.val →
      window (put Y (k0_off3 (cfg0.grid.coords t)) S1x512.size (embRow (oldLg (cfg0.grid.coords t) Yl) (oldVal (cfg0.grid.coords t) Yv))) ![r.val, 0] S1x512.size (inbE r) = rowE m c r := fun r hr => by
    by_cases hrt : r.val = t.val - 1
    · rw [window_put_eq Y ((off3_eq t).trans (by rw [hrt]))]
      rw [hl, hv]
      exact congrArg (rowE m c) (Fin.ext hrt.symm)
    · rw [off3_eq, VecWindow.window_put_of_disjoint Y _ _ _ _ _ _ (0 : Fin 2) (Or.inl (by show r.val + 1 ≤ t.val - 1; omega))]
      exact hY _ hu r (Or.inl (by show r.val < t.val - 1; omega))
  by_cases h7 : t.val = 7
  · rw [embOut_pos ((last_iff t).mpr h7)]
    by_cases hr7 : r.val = 7
    · rw [window_put_eq _ (by rw [hr7])]
      exact congrArg (rowE m c) (Fin.ext (h7.trans hr7.symm))
    · rw [VecWindow.window_put_of_disjoint _ _ _ _ _ _ _ (0 : Fin 2) (Or.inl (by show r.val + 1 ≤ 7; omega))]
      exact hbelow r (by omega)
  · rw [embOut_neg fun hf => h7 ((last_iff t).mp hf)]
    exact hbelow r (by omega)

/-- The rows of the weights after a pass. -/
theorem step_W {c : Dev nD} {t : Fin cfg0.N} {Yq : Vec F S8x512 .f32} {Yv : Vec F S2x1024x512 .f32} {Yl : Vec F S2x1x1024 .f32}
    (h : Inv m c t.val Yq Yv Yl) (Y : Vec F S8x1024 .f32) (hY : ∀ u : Fin cfg0.N, t.val = u.val + 1 → RightW m c u Y) :
    RightW m c t (wOut (cfg0.grid.coords t) Y (oldLg (cfg0.grid.coords t) Yl) (lgts m c t)) := fun r hr => by
  have ht := lt8 t
  have hr8 := lt8 r
  have h0 : t.val ≠ 0 := by omega
  have hu : t.val = (⟨t.val - 1, by omega⟩ : Fin cfg0.N).val + 1 := by show t.val = t.val - 1 + 1; omega
  obtain ⟨hl, hv⟩ := old_eq h ⟨t.val - 1, by omega⟩ hu
  have hbelow : ∀ r : Fin cfg0.N, r.val < t.val →
      window (put Y (k0_off4 (cfg0.grid.coords t)) S1x1024.size (wRow (oldLg (cfg0.grid.coords t) Yl))) ![r.val, 0] S1x1024.size (inbW r) = rowW m c r := fun r hr => by
    by_cases hrt : r.val = t.val - 1
    · rw [window_put_eq Y ((off4_eq t).trans (by rw [hrt]))]
      rw [hl]
      exact congrArg (rowW m c) (Fin.ext hrt.symm)
    · rw [off4_eq, VecWindow.window_put_of_disjoint Y _ _ _ _ _ _ (0 : Fin 2) (Or.inl (by show r.val + 1 ≤ t.val - 1; omega))]
      exact hY _ hu r (Or.inl (by show r.val < t.val - 1; omega))
  by_cases h7 : t.val = 7
  · rw [wOut_pos ((last_iff t).mpr h7)]
    by_cases hr7 : r.val = 7
    · rw [window_put_eq _ (by rw [hr7])]
      exact congrArg (rowW m c) (Fin.ext (h7.trans hr7.symm))
    · rw [VecWindow.window_put_of_disjoint _ _ _ _ _ _ _ (0 : Fin 2) (Or.inl (by show r.val + 1 ≤ 7; omega))]
      exact hbelow r (by omega)
  · rw [wOut_neg fun hf => h7 ((last_iff t).mp hf)]
    exact hbelow r (by omega)

variable (m)

/-- The three scratch buffers: the queries, the values of two blocks, the logits of two blocks. -/
abbrev qM : Memref sig .tc .vmem S8x512 .f32 := Memref.whole cc0_scratch0
/-- The buffer of the two slots of values. -/
abbrev valM : Memref sig .tc .vmem S2x1024x512 .f32 := Memref.whole cc0_scratch1
/-- The buffer of the two slots of logits. -/
abbrev lgM : Memref sig .tc .vmem S2x1x1024 .f32 := Memref.whole cc0_scratch2

/-- The class invariant, spelt out: the three scratch buffers at some contents, and the generator register. -/
theorem PhiA_eq (c : Dev nD) :
    (Pipeline.ΦA spec0 c : sProp 𝕄)
      = iprop(iprop((∃ X, has (F := F) c qM X) ∗ (∃ X, has (F := F) c valM X) ∗ (∃ X, has (F := F) c lgM X)) ∗ ∃ r, prngReg c r) := by
  unfold Pipeline.ΦA; rw [scopedRest0_eq]
  simp only [has, owns_whole]
  rfl

/-- The data: each array as the region finds it, each input block left in place, the outputs (held to their right
    rows below) at anything, the invariant between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => fun _ => Classical.arbitrary _
    | ⟨11, _⟩ => fun _ => Classical.arbitrary _
  Φ n := iprop(∃ Yq, ∃ Yv, ∃ Yl, ⌜Inv m c n.val Yq Yv Yl⌝ ∗ has c qM Yq ∗ has c valM Yv ∗ has c lgM Yl ∗ ∃ r, prngReg c r)
  q _ := fullShare
  owed _ := 0

/-- The two outputs are held to a predicate. -/
def fgt : Fin cfg0.W → Bool := fun w => match w with
  | ⟨10, _⟩ => true
  | ⟨11, _⟩ => true
  | _ => false

/-- What holds of an output after point `t`. -/
def Rl (c : Dev nD) : (w : Fin cfg0.W) → Fin cfg0.N → ((cfg0.win w).block.Idx → Elt F (cfg0.win w).elt) → Prop := fun w t X => match w, X with
  | ⟨10, _⟩, X => RightE m c t X
  | ⟨11, _⟩, X => RightW m c t X
  | _, _ => True

/-- At the start each window's array holds what the program left in it. -/
theorem A_eq (c : Dev nD) (w : Fin cfg0.W) : (dats m 0 c).A w = V m c (Pipeline.arrRef spec0 w) := by
  dsimp only [dats]
/-- The body leaves window 0 as it found it: the objects' row of the point. -/
theorem after_0 (c : Dev nD) (t : Fin cfg0.N) : (dats m 0 c).after 0 t = iblk m c 0 t := by dsimp only [dats]
/-- The body leaves window 1 as it found it: the whole context. -/
theorem after_1 (c : Dev nD) (t : Fin cfg0.N) : (dats m 0 c).after 1 t = iblk m c 1 t := by dsimp only [dats]
/-- The body leaves window 2 as it found it: the first layer's weights. -/
theorem after_2 (c : Dev nD) (t : Fin cfg0.N) : (dats m 0 c).after 2 t = iblk m c 2 t := by dsimp only [dats]
/-- The body leaves window 3 as it found it: the first layer's bias. -/
theorem after_3 (c : Dev nD) (t : Fin cfg0.N) : (dats m 0 c).after 3 t = iblk m c 3 t := by dsimp only [dats]
/-- The body leaves window 4 as it found it: the second layer's weights. -/
theorem after_4 (c : Dev nD) (t : Fin cfg0.N) : (dats m 0 c).after 4 t = iblk m c 4 t := by dsimp only [dats]
/-- The body leaves window 5 as it found it: the second layer's bias. -/
theorem after_5 (c : Dev nD) (t : Fin cfg0.N) : (dats m 0 c).after 5 t = iblk m c 5 t := by dsimp only [dats]
/-- The body leaves window 6 as it found it: the weights of keys and values. -/
theorem after_6 (c : Dev nD) (t : Fin cfg0.N) : (dats m 0 c).after 6 t = iblk m c 6 t := by dsimp only [dats]
/-- The body leaves window 7 as it found it: the bias of keys and values. -/
theorem after_7 (c : Dev nD) (t : Fin cfg0.N) : (dats m 0 c).after 7 t = iblk m c 7 t := by dsimp only [dats]
/-- The body leaves window 8 as it found it: the query's weights. -/
theorem after_8 (c : Dev nD) (t : Fin cfg0.N) : (dats m 0 c).after 8 t = iblk m c 8 t := by dsimp only [dats]
/-- The body leaves window 9 as it found it: the query's bias. -/
theorem after_9 (c : Dev nD) (t : Fin cfg0.N) : (dats m 0 c).after 9 t = iblk m c 9 t := by dsimp only [dats]
/-- The body finds in window 0 the objects' row of the point. -/
theorem before_0 (c : Dev nD) (t : Fin cfg0.N) (d) : (dats m 0 c).before 0 t d = iblk m c 0 t :=
  before0_0_of m (dats m 0 c) (A_eq m c 0) (after_0 m c) t d
/-- The body finds in window 1 the whole context. -/
theorem before_1 (c : Dev nD) (t : Fin cfg0.N) (d) : (dats m 0 c).before 1 t d = iblk m c 1 t :=
  before0_1_of m (dats m 0 c) (A_eq m c 1) (after_1 m c) t d
/-- The body finds in window 2 the first layer's weights. -/
theorem before_2 (c : Dev nD) (t : Fin cfg0.N) (d) : (dats m 0 c).before 2 t d = iblk m c 2 t :=
  before0_2_of m (dats m 0 c) (A_eq m c 2) (after_2 m c) t d
/-- The body finds in window 3 the first layer's bias. -/
theorem before_3 (c : Dev nD) (t : Fin cfg0.N) (d) : (dats m 0 c).before 3 t d = iblk m c 3 t :=
  before0_3_of m (dats m 0 c) (A_eq m c 3) (after_3 m c) t d
/-- The body finds in window 4 the second layer's weights. -/
theorem before_4 (c : Dev nD) (t : Fin cfg0.N) (d) : (dats m 0 c).before 4 t d = iblk m c 4 t :=
  before0_4_of m (dats m 0 c) (A_eq m c 4) (after_4 m c) t d
/-- The body finds in window 5 the second layer's bias. -/
theorem before_5 (c : Dev nD) (t : Fin cfg0.N) (d) : (dats m 0 c).before 5 t d = iblk m c 5 t :=
  before0_5_of m (dats m 0 c) (A_eq m c 5) (after_5 m c) t d
/-- The body finds in window 6 the weights of keys and values. -/
theorem before_6 (c : Dev nD) (t : Fin cfg0.N) (d) : (dats m 0 c).before 6 t d = iblk m c 6 t :=
  before0_6_of m (dats m 0 c) (A_eq m c 6) (after_6 m c) t d
/-- The body finds in window 7 the bias of keys and values. -/
theorem before_7 (c : Dev nD) (t : Fin cfg0.N) (d) : (dats m 0 c).before 7 t d = iblk m c 7 t :=
  before0_7_of m (dats m 0 c) (A_eq m c 7) (after_7 m c) t d
/-- The body finds in window 8 the query's weights. -/
theorem before_8 (c : Dev nD) (t : Fin cfg0.N) (d) : (dats m 0 c).before 8 t d = iblk m c 8 t :=
  before0_8_of m (dats m 0 c) (A_eq m c 8) (after_8 m c) t d
/-- The body finds in window 9 the query's bias. -/
theorem before_9 (c : Dev nD) (t : Fin cfg0.N) (d) : (dats m 0 c).before 9 t d = iblk m c 9 t :=
  before0_9_of m (dats m 0 c) (A_eq m c 9) (after_9 m c) t d

/-- The body that the grid runs at point `t` is the printed body at that point. -/
theorem body_row (t : Fin cfg0.N) :
    defs₀ (F := F) .tc cfg0.body (cfg0.bodyArgs t (cfg0.slots t)) = bodyAt0 t := by
  unfold defs₀; rw [Defs.onTc_tc]

/-- What the body is handed at point `t`. -/
def bodyPre (c : Dev nD) (t : Fin cfg0.N) : sProp 𝕄 :=
  iprop((dats m 0 c).Φ t.castSucc ∗ (dats m 0 c).owesAt () t.castSucc
    ∗ (∃ d, has c (st0_0 t) ((dats m 0 c).before 0 t d))
    ∗ (∃ d, has c (st0_1 t) ((dats m 0 c).before 1 t d))
    ∗ (∃ d, has c (st0_2 t) ((dats m 0 c).before 2 t d))
    ∗ (∃ d, has c (st0_3 t) ((dats m 0 c).before 3 t d))
    ∗ (∃ d, has c (st0_4 t) ((dats m 0 c).before 4 t d))
    ∗ (∃ d, has c (st0_5 t) ((dats m 0 c).before 5 t d))
    ∗ (∃ d, has c (st0_6 t) ((dats m 0 c).before 6 t d))
    ∗ (∃ d, has c (st0_7 t) ((dats m 0 c).before 7 t d))
    ∗ (∃ d, has c (st0_8 t) ((dats m 0 c).before 8 t d))
    ∗ (∃ d, has c (st0_9 t) ((dats m 0 c).before 9 t d))
    ∗ (∃ Y, ⌜((dats m 0 c).toRRel fgt (Rl m c)).Finds 10 t Y⌝ ∗ has c (st0_10 t) Y)
    ∗ (∃ Y, ⌜((dats m 0 c).toRRel fgt (Rl m c)).Finds 11 t Y⌝ ∗ has c (st0_11 t) Y))
/-- What the body hands back at point `t`. -/
def bodyPost (c : Dev nD) (t : Fin cfg0.N) : sProp 𝕄 :=
  iprop((dats m 0 c).Φ t.succ ∗ (dats m 0 c).owesAt () t.succ
    ∗ has c (st0_0 t) ((dats m 0 c).after 0 t)
    ∗ has c (st0_1 t) ((dats m 0 c).after 1 t)
    ∗ has c (st0_2 t) ((dats m 0 c).after 2 t)
    ∗ has c (st0_3 t) ((dats m 0 c).after 3 t)
    ∗ has c (st0_4 t) ((dats m 0 c).after 4 t)
    ∗ has c (st0_5 t) ((dats m 0 c).after 5 t)
    ∗ has c (st0_6 t) ((dats m 0 c).after 6 t)
    ∗ has c (st0_7 t) ((dats m 0 c).after 7 t)
    ∗ has c (st0_8 t) ((dats m 0 c).after 8 t)
    ∗ has c (st0_9 t) ((dats m 0 c).after 9 t)
    ∗ (∃ X, ⌜Rl m c 10 t X⌝ ∗ has c (st0_10 t) X) ∗ (∃ X, ⌜Rl m c 11 t X⌝ ∗ has c (st0_11 t) X))

/-- What is held before point `t`: the three scratch buffers, at contents that the invariant of `t` admits. -/
theorem Phi_castSucc (c : Dev nD) (t : Fin cfg0.N) : (dats m 0 c).Φ t.castSucc
    = iprop(∃ Yq, ∃ Yv, ∃ Yl, ⌜Inv m c t.val Yq Yv Yl⌝ ∗ has c qM Yq ∗ has c valM Yv ∗ has c lgM Yl ∗ ∃ r, prngReg c r) := rfl
/-- What is held after point `t`: the three scratch buffers, at contents that the invariant of `t + 1` admits. -/
theorem Phi_succ (c : Dev nD) (t : Fin cfg0.N) : (dats m 0 c).Φ t.succ
    = iprop(∃ Yq, ∃ Yv, ∃ Yl, ⌜Inv m c (t.val + 1) Yq Yv Yl⌝ ∗ has c qM Yq ∗ has c valM Yv ∗ has c lgM Yl ∗ ∃ r, prngReg c r) := rfl

/-- The embeddings' window is never fetched. -/
theorem fetch_10 (t : Fin cfg0.N) : (cfg0.win 10).fetch t = false := rfl
/-- The weights' window is never fetched. -/
theorem fetch_11 (t : Fin cfg0.N) : (cfg0.win 11).fetch t = false := rfl

/-- What the body finds in output 10 holds the rows that were right after the point before. -/
theorem finds_10 (c : Dev nD) (t : Fin cfg0.N) (Y : Vec F S8x512 .f32) (h : ((dats m 0 c).toRRel fgt (Rl m c)).Finds 10 t Y) :
    ∀ u : Fin cfg0.N, t.val = u.val + 1 → RightE m c u Y := fun u hu => by
  have ht := lt8 t
  rcases (RDat.finds_of_pos _ (fetch_10 t) (by omega) Y).mp h with hf | hl
  · have := (flush0_10 _).mp hf
    simp only at this
    omega
  · have h2 : Rl m c 10 ⟨t.val - 1, by omega⟩ Y := Dat.toRRel_leaves (dats m 0 c) rfl hl
    have e : u = ⟨t.val - 1, by omega⟩ := Fin.ext (by show u.val = t.val - 1; omega)
    rw [e]
    exact h2

/-- What the body finds in output 11 holds the rows that were right after the point before. -/
theorem finds_11 (c : Dev nD) (t : Fin cfg0.N) (Y : Vec F S8x1024 .f32) (h : ((dats m 0 c).toRRel fgt (Rl m c)).Finds 11 t Y) :
    ∀ u : Fin cfg0.N, t.val = u.val + 1 → RightW m c u Y := fun u hu => by
  have ht := lt8 t
  rcases (RDat.finds_of_pos _ (fetch_11 t) (by omega) Y).mp h with hf | hl
  · have := (flush0_11 _).mp hf
    simp only at this
    omega
  · have h2 : Rl m c 11 ⟨t.val - 1, by omega⟩ Y := Dat.toRRel_leaves (dats m 0 c) rfl hl
    have e : u = ⟨t.val - 1, by omega⟩ := Fin.ext (by show u.val = t.val - 1; omega)
    rw [e]
    exact h2

/-- The body at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  simp only [before_0 m c t, before_1 m c t, before_2 m c t, before_3 m c t, before_4 m c t, before_5 m c t, before_6 m c t, before_7 m c t, before_8 m c t, before_9 m c t, after_0 m c t, after_1 m c t, after_2 m c t, after_3 m c t, after_4 m c t, after_5 m c t, after_6 m c t, after_7 m c t, after_8 m c t, after_9 m c t]
  rw [Phi_castSucc, Phi_succ]
  iintro ⟨⟨%Yq, %Yv, %Yl, %hI, HS0, HS1, HS2, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y10, %hF10, H10⟩, ⟨%Y11, %hF11, H11⟩⟩
  iapply (body_run (hfl := not_both t) (X1 := iblk m c 0 t) (X2 := iblk m c 1 t) (X3 := iblk m c 2 t) (X4 := iblk m c 3 t)
    (X5 := iblk m c 4 t) (X6 := iblk m c 5 t) (X7 := iblk m c 6 t) (X8 := iblk m c 7 t) (X9 := iblk m c 8 t) (X10 := iblk m c 9 t)
    (Y11 := Y10) (Y12 := Y11) (Y13 := Yq) (Y14 := Yv) (Y15 := Yl))
  rw [step_q hI]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨K0, K1, K2, K3, K4, K5, K6, K7, K8, K9, K10, K11, KS0, KS1, KS2⟩
  isplitl [KS0 KS1 KS2 Hg]
  · iexists _; iexists _; iexists _; isplitr
    · ipureintro; exact step_inv t Yv Yl
    isplitl [KS0]; · iexact KS0
    isplitl [KS1]; · iexact KS1
    isplitl [KS2]; · iexact KS2
    iexact Hg
  isplitl [HO]; · iexact HO
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [K8]; · iexact K8
  isplitl [K9]; · iexact K9
  isplitl [K10]
  · iexists _; isplitr
    swap; · iexact K10
    ipureintro; exact step_E hI Y10 (finds_10 m c t Y10 hF10)
  iexists _; isplitr
  swap; · iexact K11
  ipureintro; exact step_W hI Y11 (finds_11 m c t Y11 hF11)

/-- The body obligation, the two outputs held to their right rows. -/
theorem body_obligation (c : Dev nD) :
    BodyObligationRel (dats (F := F) m 0 c) (defs₀ (F := F)) Variants.none () Set.univ fgt (Rl m c) := fun t => by
  rw [bigSep_W0, bigSep_W0, body_row]
  exact triple_restated (sound_body m c t) rfl .rfl fun _ => .rfl

/-- Before the first point the scratch buffers hold anything. -/
theorem hin (c : Dev nD) : (Pipeline.ΦA spec0 c : sProp 𝕄) ⊢ (dats m 0 c).Φ 0 := by
  rw [PhiA_eq, show (dats m 0 c).Φ 0 = iprop(∃ Yq, ∃ Yv, ∃ Yl, ⌜Inv m c 0 Yq Yv Yl⌝ ∗ has c qM Yq ∗ has c valM Yv ∗ has c lgM Yl ∗ ∃ r, prngReg c r) from rfl]
  iintro ⟨⟨⟨%Yq, Hq⟩, ⟨%Yv, Hv⟩, ⟨%Yl, Hl⟩⟩, Hg⟩
  iexists Yq; iexists Yv; iexists Yl; isplitr
  · ipureintro; exact fun u hu => absurd hu (by omega)
  isplitl [Hq]; · iexact Hq
  isplitl [Hv]; · iexact Hv
  isplitl [Hl]; · iexact Hl
  iexact Hg

/-- After the last point the scratch buffers are given back. -/
theorem hout (c : Dev nD) : (dats m 0 c).Φ (Fin.last cfg0.N) ⊢ (Pipeline.ΦA spec0 c : sProp 𝕄) := by
  rw [PhiA_eq, show (dats m 0 c).Φ (Fin.last cfg0.N) = iprop(∃ Yq, ∃ Yv, ∃ Yl, ⌜Inv m c cfg0.N Yq Yv Yl⌝ ∗ has c qM Yq ∗ has c valM Yv ∗ has c lgM Yl ∗ ∃ r, prngReg c r) from rfl]
  iintro ⟨%Yq, %Yv, %Yl, %hI, Hq, Hv, Hl, Hg⟩
  isplitl [Hq Hv Hl]
  · isplitl [Hq]; · iexists Yq; iexact Hq
    isplitl [Hv]; · iexists Yv; iexact Hv
    iexists Yl; iexact Hl
  iexact Hg

/-! ## The result arrays -/

/-- The place of an element within its row of the embedding array. -/
def locE (y : S8x512.Idx) : S1x512.Idx := fun a => match a with | ⟨0, _⟩ => ⟨0, Nat.zero_lt_one⟩ | ⟨1, _⟩ => y 1

/-- The embedding array: row `y 0` of its right values. -/
def emb (c : Dev nD) : Vec F S8x512 .f32 := fun y => rowE m c ⟨(y 0).val, (y 0).isLt⟩ (locE y)

/-- An array whose rows are all right is the embedding array. -/
theorem emb_of_right {c : Dev nD} {t : Fin cfg0.N} (ht : t.val = 7) {X : Vec F S8x512 .f32} (h : RightE m c t X) : X = emb m c := by
  funext y
  have e : y = (Rect.unit (s := S8x512) ![(y 0).val, 0] S1x512.size (inbE ⟨(y 0).val, (y 0).isLt⟩)).emb (locE y) :=
    funext fun a => Fin.ext (by
      match a with
      | ⟨0, _⟩ => show (y 0).val = (y 0).val + 1 * 0; omega
      | ⟨1, _⟩ => show (y 1).val = 0 + 1 * (y 1).val; omega)
  have h1 : X y = X ((Rect.unit (s := S8x512) ![(y 0).val, 0] S1x512.size (inbE ⟨(y 0).val, (y 0).isLt⟩)).emb (locE y)) := congrArg X e
  exact h1.trans (congrFun (h ⟨(y 0).val, (y 0).isLt⟩ (Or.inr ht)) (locE y))

/-- The place of an element within its row of the weight array. -/
def locW (y : S8x1024.Idx) : S1x1024.Idx := fun a => match a with | ⟨0, _⟩ => ⟨0, Nat.zero_lt_one⟩ | ⟨1, _⟩ => y 1

/-- The weight array: row `y 0` of its right values. -/
def wts (c : Dev nD) : Vec F S8x1024 .f32 := fun y => rowW m c ⟨(y 0).val, (y 0).isLt⟩ (locW y)

/-- An array whose rows are all right is the weight array. -/
theorem wts_of_right {c : Dev nD} {t : Fin cfg0.N} (ht : t.val = 7) {X : Vec F S8x1024 .f32} (h : RightW m c t X) : X = wts m c := by
  funext y
  have e : y = (Rect.unit (s := S8x1024) ![(y 0).val, 0] S1x1024.size (inbW ⟨(y 0).val, (y 0).isLt⟩)).emb (locW y) :=
    funext fun a => Fin.ext (by
      match a with
      | ⟨0, _⟩ => show (y 0).val = (y 0).val + 1 * 0; omega
      | ⟨1, _⟩ => show (y 1).val = 0 + 1 * (y 1).val; omega)
  have h1 : X y = X ((Rect.unit (s := S8x1024) ![(y 0).val, 0] S1x1024.size (inbW ⟨(y 0).val, (y 0).isLt⟩)).emb (locW y)) := congrArg X e
  exact h1.trans (congrFun (h ⟨(y 0).val, (y 0).isLt⟩ (Or.inr ht)) (locW y))

/-- The last point of the grid. -/
abbrev last0 : Fin cfg0.N := ⟨7, by decide⟩

/-- The embedding array after the run. -/
theorem arr_E (c : Dev nD) (G : Vec F S8x512 .f32) (h : ((dats m 0 c).toRRel fgt (Rl m c)).ArrAt 10 cfg0.N G) : G = emb m c := by
  obtain ⟨X, hX, hG⟩ := RDat.ArrAt.emb_eq_of_wholeAt h (t₀ := last0) (by decide +kernel)
  have hR : RightE m c last0 X := Dat.toRRel_leaves (dats m 0 c) rfl hX
  rw [← emb_of_right m (t := last0) rfl hR]
  exact funext fun j => hG j

/-- The weight array after the run. -/
theorem arr_W (c : Dev nD) (G : Vec F S8x1024 .f32) (h : ((dats m 0 c).toRRel fgt (Rl m c)).ArrAt 11 cfg0.N G) : G = wts m c := by
  obtain ⟨X, hX, hG⟩ := RDat.ArrAt.emb_eq_of_wholeAt h (t₀ := last0) (by decide +kernel)
  have hR : RightW m c last0 X := Dat.toRRel_leaves (dats m 0 c) rfl hX
  rw [← wts_of_right m (t := last0) rfl hR]
  exact funext fun j => hG j

set_option backward.isDefEq.respectTransparency.types false in
/-- The run of the kernel: its results hold the two arrays, its arguments end unchanged, every semaphore counter ends at zero. -/
theorem run : θ_run defs (onTc (τ := τ) (main (F := F))) ⟨m, fun _ => 0, ρ⟩ (fun r => (∀ c : Dev nD,
      r.2.mem ((c.tc : Thread nD τ).loc main_v5_0) = emb m c
      ∧ r.2.mem ((c.tc : Thread nD τ).loc main_v5_1) = wts m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.RDat.θ_run_frame_track cfgs (0 : Fin 1) launch0 defs₀ Variants.none (fun c => (dats m 0 c).toRRel fgt (Rl m c)) m ρ main
    (hbody := fun c => (body_obligation m c).toRRel) (hshare := fun c => (dats m 0 c).share_full fun _ => rfl)
    (howed := fun _ _ => rfl) (V := V m) (hmain := hmain m Variants.none) (hA := A_eq m)
    (hin := hin m) (hout := hout m)
    (Q' := _) (hQ' := fun r h => ⟨fun c => ⟨
      arr_E m c _ ((h.1 c).1 10),
      arr_W m c _ ((h.1 c).1 11),
      (Pipeline.RDat.FramePost.arr_in h.1 c 0 rfl).trans (V_main_arg0 m c),
      ((h.1 c).2 main_arg1 (Pipeline.mem_restRefs_of main_arg1 (by decide) (by decide))).trans (V_main_arg1 m c),
      (Pipeline.RDat.FramePost.arr_in h.1 c 2 rfl).trans (V_main_arg2 m c),
      ((h.1 c).2 main_arg3 (Pipeline.mem_restRefs_of main_arg3 (by decide) (by decide))).trans (V_main_arg3 m c),
      (Pipeline.RDat.FramePost.arr_in h.1 c 4 rfl).trans (V_main_arg4 m c),
      ((h.1 c).2 main_arg5 (Pipeline.mem_restRefs_of main_arg5 (by decide) (by decide))).trans (V_main_arg5 m c),
      (Pipeline.RDat.FramePost.arr_in h.1 c 6 rfl).trans (V_main_arg6 m c),
      ((h.1 c).2 main_arg7 (Pipeline.mem_restRefs_of main_arg7 (by decide) (by decide))).trans (V_main_arg7 m c),
      (Pipeline.RDat.FramePost.arr_in h.1 c 8 rfl).trans (V_main_arg8 m c),
      ((h.1 c).2 main_arg9 (Pipeline.mem_restRefs_of main_arg9 (by decide) (by decide))).trans (V_main_arg9 m c)⟩, h.2⟩)

end Cert.KernelIdeal.Hand

end
-- ==== Proof.Spec.lean ====
/-
  The mathematics both programs compute, over the extended reals, with no blocks, windows or layouts.

  One row of objects goes through two hidden layers and one layer of keys and values; a query row is one layer of the
  context; the logit of an object is the product of query and key over the root of their length; a row of logits is
  turned into weights by the softmax; and the embedding is the weighted sum of the values.
-/
module

public import Idealize.ShloMosaic.PureOps.Ideal
public import Idealize.ShloMosaic.PureOps.Ideal.Laws
public import Idealize.ShloMosaic.Lib.Pointwise.Index

@[expose] public section

noncomputable section

namespace Cert.Spec

open Idealize.ShloMosaic

/-- One linear layer on one row: the row times the weights, plus the bias. -/
def lin {K N : ℕ} (a : Fin K → EReal) (w : Fin K → Fin N → EReal) (b : Fin N → EReal) (j : Fin N) : EReal :=
  (∑ k, a k * w k j) + b j

/-- The positive part, entry by entry. -/
def relu {N : ℕ} (v : Fin N → EReal) (j : Fin N) : EReal := max (v j) 0

/-- The keys (first 512 entries) and values (last 512 entries) of one object. -/
def keyVal (a : Fin 256 → EReal) (w0 : Fin 256 → Fin 512 → EReal) (b0 : Fin 512 → EReal)
    (w1 : Fin 512 → Fin 512 → EReal) (b1 : Fin 512 → EReal) (wkv : Fin 512 → Fin 1024 → EReal)
    (bkv : Fin 1024 → EReal) : Fin 1024 → EReal :=
  lin (relu (lin (relu (lin a w0 b0)) w1 b1)) wkv bkv

/-- Entry `k` of the key inside the row of keys and values. -/
abbrev keyAt (k : Fin 512) : Fin 1024 := ⟨k.val, by omega⟩

/-- Entry `k` of the value inside the row of keys and values. -/
abbrev valAt (k : Fin 512) : Fin 1024 := ⟨512 + k.val, by omega⟩

/-- The logit of an object: query times key, over the root of 512. -/
def logit (q : Fin 512 → EReal) (kv : Fin 1024 → EReal) : EReal :=
  (∑ k : Fin 512, q k * kv (keyAt k)) * (((Real.sqrt 512)⁻¹ : ℝ) : EReal)

/-- The greatest logit of a row. -/
def top {N : ℕ} (l : Fin N → EReal) : EReal :=
  (Finset.univ : Finset (Fin N)).fold max (Ideal.ofBits .f32 0xFF800000#32) l

/-- The softmax weight of entry `i` of a row of logits. -/
def weight {N : ℕ} (l : Fin N → EReal) (i : Fin N) : EReal :=
  Ideal.div (Ideal.exp (l i - top l)) (∑ k, Ideal.exp (l k - top l))

/-- Entry `j` of the weighted sum of a row's values. -/
def mix (w : Fin 1024 → EReal) (kv : Fin 1024 → Fin 1024 → EReal) (j : Fin 512) : EReal :=
  ∑ k, w k * kv k (valAt j)

/-! ## The results as functions of the ten arguments -/

/-- An array of extended reals of two axes. -/
abbrev Mat (a b : ℕ) : Type := (⟨2, ![a, b]⟩ : Shape).Idx → EReal
/-- An array of extended reals of one axis. -/
abbrev Row (a : ℕ) : Type := (⟨1, ![a]⟩ : Shape).Idx → EReal
/-- An array of extended reals of three axes. -/
abbrev Cube (a b c : ℕ) : Type := (⟨3, ![a, b, c]⟩ : Shape).Idx → EReal

variable (x0 : Cube 8 1024 256) (x1 : Mat 8 1024) (x2 : Mat 256 512) (x3 : Row 512) (x4 : Mat 512 512) (x5 : Row 512)
  (x6 : Mat 512 1024) (x7 : Row 1024) (x8 : Mat 1024 512) (x9 : Row 512)

/-- Keys and values of object `i` of segment `b`. -/
def kvAt (b : Fin 8) (i : Fin 1024) : Fin 1024 → EReal :=
  keyVal (fun k => x0 (ix3 b i k)) (fun k j => x2 (ix2 k j)) (fun j => x3 (ix1 j)) (fun k j => x4 (ix2 k j))
    (fun j => x5 (ix1 j)) (fun k j => x6 (ix2 k j)) (fun j => x7 (ix1 j))

/-- The query of segment `b`. -/
def queryAt (b : Fin 8) : Fin 512 → EReal :=
  lin (fun k => x1 (ix2 b k)) (fun k j => x8 (ix2 k j)) (fun j => x9 (ix1 j))

/-- The logit of object `i` of segment `b`. -/
def logitAt (b : Fin 8) (i : Fin 1024) : EReal := logit (queryAt x1 x8 x9 b) (kvAt x0 x2 x3 x4 x5 x6 x7 b i)

/-- The weight of object `i` of segment `b`: the second result. -/
def weightAt (b : Fin 8) (i : Fin 1024) : EReal := weight (logitAt x0 x1 x2 x3 x4 x5 x6 x7 x8 x9 b) i

/-- Entry `j` of the embedding of segment `b`: the first result. -/
def embAt (b : Fin 8) (j : Fin 512) : EReal :=
  mix (weightAt x0 x1 x2 x3 x4 x5 x6 x7 x8 x9 b) (kvAt x0 x2 x3 x4 x5 x6 x7 b) j

end Cert.Spec

end
-- ==== Proof.Block.lean ====
/-
  What one block of the kernel computes, entry by entry, in the words of `Spec`.
-/
module

public import proofs.«01_k».proof.Proof.Spec
public import proofs.«01_k».proof.Proof.Body
public import Idealize.ShloMosaic.Lib.ValueIdx
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

set_option maxRecDepth 16384

noncomputable section

namespace Cert.KernelIdeal.Hand

open Cert.KernelIdeal Cert.KernelIdeal.Gen
open Idealize.ShloMosaic

/-- A maximum over pairs whose first coordinate has one value is the maximum over the second coordinate. -/
theorem fold_unit_pair {n : ℕ} (b : EReal) (f : Fin 1 → Fin n → EReal) :
    (Finset.univ : Finset (Fin 1 × Fin n)).fold max b (fun x => f x.1 x.2)
      = (Finset.univ : Finset (Fin n)).fold max b (f 0) := by
  have e : (Finset.univ : Finset (Fin 1 × Fin n))
      = Finset.univ.map ⟨fun k => (0, k), fun a b h => (Prod.mk.inj h).2⟩ := by
    ext ⟨a, k⟩
    simp [Subsingleton.elim a 0]
    exact ⟨k, rfl⟩
  rw [e, Finset.fold_map]
  rfl

/-- The first hidden layer of one block: row `i` of the objects through one layer and the positive part. -/
theorem pay4_apply (x : Vec Ideal S1x1024x256 .f32) (w : Vec Ideal S256x512 .f32) (b : Vec Ideal S1x512 .f32)
    (i : Fin 1024) (j : Fin 512) :
    k0_pay4 x w b (ix2 i j)
      = Spec.relu (Spec.lin (fun k => x (ix3 0 i k)) (fun k j => w (ix2 k j)) (fun j => b (ix2 0 j))) j := by
  unfold k0_pay4
  pointwise
  rfl

/-- Keys and values of one block, from its first hidden layer: a second layer, the positive part, and one more layer. -/
theorem pay8_apply (h : FVec Ideal S1024x512 .f32) (w : Vec Ideal S512x512 .f32) (b : Vec Ideal S1x512 .f32)
    (w' : Vec Ideal S512x1024 .f32) (b' : Vec Ideal S1x1024 .f32) (i : Fin 1024) (j : Fin 1024) :
    k0_pay8 h w b w' b' (ix2 i j)
      = Spec.lin (Spec.relu (Spec.lin (fun k => h (ix2 i k)) (fun k j => w (ix2 k j)) (fun j => b (ix2 0 j))))
          (fun k j => w' (ix2 k j)) (fun j => b' (ix2 0 j)) j := by
  unfold k0_pay8
  pointwise
  rfl

/-- The values of a block are the right half of its keys and values. -/
theorem pay9_apply (h : FVec Ideal S1024x512 .f32) (w : Vec Ideal S512x512 .f32) (b : Vec Ideal S1x512 .f32)
    (w' : Vec Ideal S512x1024 .f32) (b' : Vec Ideal S1x1024 .f32) (i : Fin 1024) (j : Fin 512) :
    k0_pay9 h w b w' b' (ix3 0 i j) = k0_pay8 h w b w' b' (ix2 i (Spec.valAt j)) := by
  unfold k0_pay9
  generalize k0_pay8 h w b w' b' = y
  pointwise

/-- The queries: each row of the context through one layer. -/
theorem pay3_apply (x : Vec Ideal S8x1x1024 .f32) (w : Vec Ideal S1024x512 .f32) (b : Vec Ideal S1x512 .f32)
    (i : Fin 8) (j : Fin 512) :
    k0_pay3 x w b (ix2 i j)
      = Spec.lin (fun k => x (ix3 i 0 k)) (fun k j => w (ix2 k j)) (fun j => b (ix2 0 j)) j := by
  unfold k0_pay3
  pointwise
  rfl

/-- The logits of a block: the query against the left half of its keys and values. -/
theorem pay10_apply (h : FVec Ideal S1024x512 .f32) (w : Vec Ideal S512x512 .f32) (b : Vec Ideal S1x512 .f32)
    (w' : Vec Ideal S512x1024 .f32) (b' : Vec Ideal S1x1024 .f32) (q : Vec Ideal S1x512 .f32) (i : Fin 1024) :
    k0_pay10 h w b w' b' q (ix3 0 0 i)
      = Spec.logit (fun k => q (ix2 0 k)) (fun k => k0_pay8 h w b w' b' (ix2 i k)) := by
  unfold k0_pay10
  generalize k0_pay8 h w b w' b' = y
  pointwise
  exact congrArg (fun z => (∑ k : Fin 512, q (ix2 0 k) * y (ix2 i (Spec.keyAt k))) * z)
    (IdealRules.named_const.ideal_named_scalar κ "s" (φ := .f32) 0x3D3504F3#32 (((Real.sqrt 512)⁻¹ : ℝ) : EReal) rfl)

/-- The weights of a block: the softmax of its logits. -/
theorem pay1_apply (l : Vec Ideal S1x1x1024 .f32) (i : Fin 1024) :
    k0_pay1 l (ix2 0 i) = Spec.weight (fun k => l (ix3 0 0 k)) i := by
  unfold k0_pay1
  pointwise
  rw [fold_unit_pair (Ideal.ofBits .f32 0xFF800000#32) fun a b => l (ix3 0 a b), Fin.sum_univ_one]
  rfl

/-- The embedding of a block: its values summed with its weights. -/
theorem pay2_apply (l : Vec Ideal S1x1x1024 .f32) (v : Vec Ideal S1x1024x512 .f32) (j : Fin 512) :
    k0_pay2 l v (ix2 0 j) = ∑ k : Fin 1024, k0_pay1 l (ix2 0 k) * v (ix3 0 k j) := by
  unfold k0_pay2
  generalize k0_pay1 l = y
  pointwise

end Cert.KernelIdeal.Hand

end
-- ==== Proof.Arrays.lean ====
/-
  What the blocks the body reads hold, entry by entry, in the arguments of the program.

  Block `t` of the objects is row `t` of the objects. Every other operand is a whole array at every pass; five of them
  were reshaped by the program before the kernel starts.
-/
module

public import proofs.«01_k».proof.Proof.Run
public import Idealize.ShloMosaic.Lib.Pipeline.ValueKit.Point
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ)

/-- Where each window's block lies: at row `t` for the objects, at the start for every other operand. -/
theorem idx : ∀ t : Fin cfg0.N, win0_0.index t = ![t.val, 0, 0] ∧ win0_1.index t = ![0, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] := by decide +kernel

/-- Window 0's block, entry by entry: the objects' row of the point. -/
theorem iblk0_apply (c : Dev nD) (t : Fin cfg0.N) (i : Fin 1024) (k : Fin 256) :
    iblk m c 0 t (ix3 0 i k) = m ((c : Thread nD τ).loc main_arg0) (ix3 t i k) := by
  blk_ext! [iblk, V, idx t]

/-- Window 1's block, entry by entry: the whole context. -/
theorem iblk1_apply (c : Dev nD) (t : Fin cfg0.N) (i : Fin 8) (k : Fin 1024) :
    iblk m c 1 t (ix3 i 0 k) = m ((c : Thread nD τ).loc main_arg1) (ix2 i k) := by
  blk_ext! [iblk, V, idx t]

/-- Window 2's block, entry by entry: the first layer's weights. -/
theorem iblk2_apply (c : Dev nD) (t : Fin cfg0.N) (i : Fin 256) (k : Fin 512) :
    iblk m c 2 t (ix2 i k) = m ((c : Thread nD τ).loc main_arg2) (ix2 i k) := by
  blk_ext! [iblk, V, idx t]

/-- Window 3's block, entry by entry: the first layer's bias. -/
theorem iblk3_apply (c : Dev nD) (t : Fin cfg0.N) (k : Fin 512) :
    iblk m c 3 t (ix2 0 k) = m ((c : Thread nD τ).loc main_arg3) (ix1 k) := by
  blk_ext! [iblk, V, idx t]

/-- Window 4's block, entry by entry: the second layer's weights. -/
theorem iblk4_apply (c : Dev nD) (t : Fin cfg0.N) (i : Fin 512) (k : Fin 512) :
    iblk m c 4 t (ix2 i k) = m ((c : Thread nD τ).loc main_arg4) (ix2 i k) := by
  blk_ext! [iblk, V, idx t]

/-- Window 5's block, entry by entry: the second layer's bias. -/
theorem iblk5_apply (c : Dev nD) (t : Fin cfg0.N) (k : Fin 512) :
    iblk m c 5 t (ix2 0 k) = m ((c : Thread nD τ).loc main_arg5) (ix1 k) := by
  blk_ext! [iblk, V, idx t]

/-- Window 6's block, entry by entry: the weights of keys and values. -/
theorem iblk6_apply (c : Dev nD) (t : Fin cfg0.N) (i : Fin 512) (k : Fin 1024) :
    iblk m c 6 t (ix2 i k) = m ((c : Thread nD τ).loc main_arg6) (ix2 i k) := by
  blk_ext! [iblk, V, idx t]

/-- Window 7's block, entry by entry: the bias of keys and values. -/
theorem iblk7_apply (c : Dev nD) (t : Fin cfg0.N) (k : Fin 1024) :
    iblk m c 7 t (ix2 0 k) = m ((c : Thread nD τ).loc main_arg7) (ix1 k) := by
  blk_ext! [iblk, V, idx t]

/-- Window 8's block, entry by entry: the query's weights. -/
theorem iblk8_apply (c : Dev nD) (t : Fin cfg0.N) (i : Fin 1024) (k : Fin 512) :
    iblk m c 8 t (ix2 i k) = m ((c : Thread nD τ).loc main_arg8) (ix2 i k) := by
  blk_ext! [iblk, V, idx t]

/-- Window 9's block, entry by entry: the query's bias. -/
theorem iblk9_apply (c : Dev nD) (t : Fin cfg0.N) (k : Fin 512) :
    iblk m c 9 t (ix2 0 k) = m ((c : Thread nD τ).loc main_arg9) (ix1 k) := by
  blk_ext! [iblk, V, idx t]

/-- At point `t` the body reads the query at row `t`. -/
theorem off5_eq : ∀ t : Fin cfg0.N, k0_off5 (cfg0.grid.coords t) = ![t.val, 0] := by decide +kernel

/-- The query row that the body reads at point `t` is row `t` of the query buffer. -/
theorem qRow_apply (t : Fin cfg0.N) (q : Vec Ideal S8x512 .f32) (k : Fin 512) :
    qRow (cfg0.grid.coords t) q (ix2 0 k) = q (ix2 t k) := by
  unfold qRow
  refine (congrFun (window_congr q (off5_eq t) _ (inbE t)) (ix2 0 k)).trans ?_
  refine congrArg q (funext fun a => Fin.ext ?_)
  fin_cases a <;> simp

end Cert.KernelIdeal.Hand

end
-- ==== Proof.KernelValue.lean ====
/-
  What the kernel's two results hold, entry by entry, as the functions of `Spec` of the program's arguments.
-/
module

public import proofs.«01_k».proof.Proof.Block
public import proofs.«01_k».proof.Proof.Arrays

@[expose] public section

set_option maxRecDepth 16384

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ)

/-- Keys and values of a block. -/
theorem kv_apply (c : Dev nD) (t : Fin cfg0.N) (i : Fin 1024) (j : Fin 1024) :
    k0_pay8 (k0_pay4 (iblk m c 0 t) (iblk m c 2 t) (iblk m c 3 t)) (iblk m c 4 t) (iblk m c 5 t) (iblk m c 6 t)
        (iblk m c 7 t) (ix2 i j)
      = Spec.kvAt (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) t i j := by
  rw [pay8_apply]
  simp only [pay4_apply]
  unfold Spec.kvAt Spec.keyVal
  simp only [iblk0_apply, iblk2_apply, iblk3_apply, iblk4_apply, iblk5_apply, iblk6_apply, iblk7_apply]

/-- The query of a segment. -/
theorem query_apply (c : Dev nD) (t : Fin cfg0.N) (k : Fin 512) :
    qRow (cfg0.grid.coords t) (queries m c) (ix2 0 k)
      = Spec.queryAt (m ((c : Thread nD τ).loc main_arg1)) (m ((c : Thread nD τ).loc main_arg8)) (m ((c : Thread nD τ).loc main_arg9)) t k := by
  refine (qRow_apply t (queries m c) k).trans ((pay3_apply _ _ _ t k).trans ?_)
  unfold Spec.queryAt
  simp only [iblk8_apply, iblk9_apply]
  exact congrArg (fun a => Spec.lin a _ _ k) (funext fun k => iblk1_apply m c first0 t k)

/-- The logits of a block. -/
theorem lgts_apply (c : Dev nD) (t : Fin cfg0.N) (i : Fin 1024) :
    lgts m c t (ix3 0 0 i)
      = Spec.logitAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) t i := by
  unfold lgts newLg
  rw [pay10_apply]
  exact congrArg₂ Spec.logit (funext fun k => query_apply m c t k) (funext fun k => kv_apply m c t i k)

/-- The values of a block. -/
theorem vals_apply (c : Dev nD) (t : Fin cfg0.N) (i : Fin 1024) (j : Fin 512) :
    vals m c t (ix3 0 i j)
      = Spec.kvAt (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) t i (Spec.valAt j) := by
  unfold vals newVal
  rw [pay9_apply, kv_apply]

/-- A row of the weights. -/
theorem rowW_apply (c : Dev nD) (t : Fin cfg0.N) (i : Fin 1024) :
    rowW m c t (ix2 0 i)
      = Spec.weightAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) t i := by
  unfold rowW wRow
  rw [pay1_apply]
  unfold Spec.weightAt
  simp only [lgts_apply]

/-- A row of the embedding. -/
theorem rowE_apply (c : Dev nD) (t : Fin cfg0.N) (j : Fin 512) :
    rowE m c t (ix2 0 j)
      = Spec.embAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) t j := by
  unfold rowE embRow
  rw [pay2_apply]
  unfold Spec.embAt Spec.mix
  exact Finset.sum_congr rfl fun k _ => congrArg₂ (· * ·) (rowW_apply m c t k) (vals_apply m c t k j)

/-- The weights the kernel leaves. -/
theorem wts_apply (c : Dev nD) (t : Fin 8) (i : Fin 1024) :
    wts m c (ix2 t i)
      = Spec.weightAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) t i := by
  refine Eq.trans ?_ (rowW_apply m c t i)
  unfold wts
  refine congrArg (rowW m c t) (funext fun a => ?_)
  fin_cases a <;> rfl

/-- The embedding the kernel leaves. -/
theorem emb_apply (c : Dev nD) (t : Fin 8) (j : Fin 512) :
    emb m c (ix2 t j)
      = Spec.embAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) t j := by
  refine Eq.trans ?_ (rowE_apply m c t j)
  unfold emb
  refine congrArg (rowE m c t) (funext fun a => ?_)
  fin_cases a <;> rfl

end Cert.KernelIdeal.Hand

end
-- ==== Proof.Reference.lean ====
/-
  What the reference's two results hold, entry by entry, as the functions of `Spec` of its arguments.

  The reference flattens the eight segments of 1024 objects into 8192 rows, so object `i` of segment `b` is row
  `b * 1024 + i`.
-/
module

public import proofs.«01_k».proof.Proof.Spec
public import proofs.«01_k».proof.Proof.Gen.ReferenceIdeal.Read
public import Idealize.ShloMosaic.Lib.Pointwise.Tactic
public import Idealize.ShloMosaic.Lib.Pointwise.Contract
public import Idealize.ShloMosaic.Lib.Pointwise.Reduce
public import Idealize.ShloMosaic.Lib.Pointwise.Reshape

@[expose] public section

set_option maxRecDepth 16384

noncomputable section

namespace Cert.ReferenceIdeal.Read

open Cert.ReferenceIdeal Cert.ReferenceIdeal.Gen
open Idealize.ShloMosaic Idealize.ShloMosaic.TcCoe

variable (x0 : (⟨S8x1024x256, .f32⟩ : BufTy).Contents (Elt Ideal))
  (x1 : (⟨S8x1024, .f32⟩ : BufTy).Contents (Elt Ideal))
  (x2 : (⟨S256x512, .f32⟩ : BufTy).Contents (Elt Ideal))
  (x3 : (⟨S512, .f32⟩ : BufTy).Contents (Elt Ideal))
  (x4 : (⟨S512x512, .f32⟩ : BufTy).Contents (Elt Ideal))
  (x5 : (⟨S512, .f32⟩ : BufTy).Contents (Elt Ideal))
  (x6 : (⟨S512x1024, .f32⟩ : BufTy).Contents (Elt Ideal))
  (x7 : (⟨S1024, .f32⟩ : BufTy).Contents (Elt Ideal))
  (x8 : (⟨S1024x512, .f32⟩ : BufTy).Contents (Elt Ideal))
  (x9 : (⟨S512, .f32⟩ : BufTy).Contents (Elt Ideal))

/-- Object `i` of segment `b` among the flattened rows. -/
def row (b : Fin 8) (i : Fin 1024) : Fin 8192 := ⟨b.val * 1024 + i.val, by omega⟩

/-- The flattened objects. -/
theorem v0_at (b : Fin 8) (i : Fin 1024) (k : Fin 256) :
    val_main_v0 (F := Ideal) x0 (ix2 (row b i) k) = x0 (ix3 b i k) := by
  rw [val_main_v0_apply]
  refine congrArg x0 (funext fun a => Fin.ext ?_)
  have hb := b.isLt
  have hi := i.isLt
  have hk := k.isLt
  match a with
  | ⟨0, _⟩ => show ((b.val * 1024 + i.val) * 256 + k.val) / 262144 = b.val; omega
  | ⟨1, _⟩ => show ((b.val * 1024 + i.val) * 256 + k.val) / 256 % 1024 = i.val; omega
  | ⟨2, _⟩ => show ((b.val * 1024 + i.val) * 256 + k.val) % 256 = k.val; omega

/-- The first hidden layer of a row. -/
theorem v5_at (r : Fin 8192) (j : Fin 512) :
    val_main_v5 (F := Ideal) x0 x2 x3 (ix2 r j)
      = Spec.relu (Spec.lin (fun k => val_main_v0 (F := Ideal) x0 (ix2 r k)) (fun k j => x2 (ix2 k j)) (fun j => x3 (ix1 j))) j := by
  unfold val_main_v5 val_main_call0_v0 val_main_call0_cst val_main_v4 val_main_v3 val_main_v2 val_main_v1
  generalize val_main_v0 (F := Ideal) x0 = y
  pointwise
  rfl

/-- The second hidden layer of a row, from the first. -/
theorem v10_at (r : Fin 8192) (j : Fin 512) :
    val_main_v10 (F := Ideal) x0 x2 x3 x4 x5 (ix2 r j)
      = Spec.relu (Spec.lin (fun k => val_main_v5 (F := Ideal) x0 x2 x3 (ix2 r k)) (fun k j => x4 (ix2 k j)) (fun j => x5 (ix1 j))) j := by
  unfold val_main_v10 val_main_call1_v0 val_main_call1_cst val_main_v9 val_main_v8 val_main_v7 val_main_v6
  generalize val_main_v5 (F := Ideal) x0 x2 x3 = y
  pointwise
  rfl

/-- Keys and values of a row, from the second hidden layer. -/
theorem v14_at (r : Fin 8192) (j : Fin 1024) :
    val_main_v14 (F := Ideal) x0 x2 x3 x4 x5 x6 x7 (ix2 r j)
      = Spec.lin (fun k => val_main_v10 (F := Ideal) x0 x2 x3 x4 x5 (ix2 r k)) (fun k j => x6 (ix2 k j)) (fun j => x7 (ix1 j)) j := by
  unfold val_main_v14 val_main_v13 val_main_v12 val_main_v11
  generalize val_main_v10 (F := Ideal) x0 x2 x3 x4 x5 = y
  pointwise
  rfl

/-- Keys and values of an object. -/
theorem kv_at (b : Fin 8) (i : Fin 1024) (j : Fin 1024) :
    val_main_v14 (F := Ideal) x0 x2 x3 x4 x5 x6 x7 (ix2 (row b i) j) = Spec.kvAt x0 x2 x3 x4 x5 x6 x7 b i j := by
  rw [v14_at]
  simp only [v10_at, v5_at, v0_at]
  rfl

/-- The key of an object. -/
theorem v15_at (r : Fin 8192) (k : Fin 512) :
    val_main_v15 (F := Ideal) x0 x2 x3 x4 x5 x6 x7 (ix2 r k) = val_main_v14 (F := Ideal) x0 x2 x3 x4 x5 x6 x7 (ix2 r (Spec.keyAt k)) := by
  rw [val_main_v15_apply]
  refine congrArg _ (funext fun a => Fin.ext ?_)
  fin_cases a <;> simp

/-- The value of an object. -/
theorem v16_at (r : Fin 8192) (k : Fin 512) :
    val_main_v16 (F := Ideal) x0 x2 x3 x4 x5 x6 x7 (ix2 r k) = val_main_v14 (F := Ideal) x0 x2 x3 x4 x5 x6 x7 (ix2 r (Spec.valAt k)) := by
  rw [val_main_v16_apply]
  refine congrArg _ (funext fun a => Fin.ext ?_)
  fin_cases a <;> simp

/-- The query of a segment. -/
theorem v20_at (b : Fin 8) (k : Fin 512) :
    val_main_v20 (F := Ideal) x1 x8 x9 (ix2 b k) = Spec.queryAt x1 x8 x9 b k := by
  unfold val_main_v20 val_main_v19 val_main_v18 val_main_v17
  pointwise
  rfl

/-- The query repeated for every object of its segment. -/
theorem v22_at (b : Fin 8) (i : Fin 1024) (k : Fin 512) :
    val_main_v22 (F := Ideal) x1 x8 x9 (ix2 (row b i) k) = Spec.queryAt x1 x8 x9 b k := by
  rw [val_main_v22_apply, val_main_v21_apply, ← v20_at]
  refine congrArg _ (funext fun a => Fin.ext ?_)
  have hb := b.isLt
  have hi := i.isLt
  have hk := k.isLt
  match a with
  | ⟨0, _⟩ => show ((b.val * 1024 + i.val) * 512 + k.val) / 524288 = b.val; omega
  | ⟨1, _⟩ => show ((b.val * 1024 + i.val) * 512 + k.val) % 512 = k.val; omega

/-- The root the reference divides by. -/
theorem v26_at (i : S8192.Idx) : val_main_v26 (F := Ideal) i = ((Real.sqrt 512 : ℝ) : EReal) := by
  rw [val_main_v26_apply, val_main_v25_apply, val_main_cst_0_apply]
  have e : FloatOps.ofBits (F := Ideal) .f32 0x44000000#32 = ((512 : ℝ) : EReal) := by
    simp [Ideal.ofBits, Ideal.ieee]
    rw [← EReal.coe_mul]
    norm_num
  rw [e, Ideal.hostUnary_sqrt_def, Ideal.sqrt_coe, if_neg (by norm_num)]

/-- The product of query and key, summed. -/
theorem v24_at (r : Fin 8192) :
    val_main_v24 (F := Ideal) x0 x1 x2 x3 x4 x5 x6 x7 x8 x9 (ix1 r)
      = ∑ k : Fin 512, val_main_v22 (F := Ideal) x1 x8 x9 (ix2 r k) * val_main_v15 (F := Ideal) x0 x2 x3 x4 x5 x6 x7 (ix2 r k) := by
  unfold val_main_v24 val_main_v23 val_main_cst
  generalize val_main_v22 (F := Ideal) x1 x8 x9 = y
  generalize val_main_v15 (F := Ideal) x0 x2 x3 x4 x5 x6 x7 = z
  pointwise

/-- The logit of an object. -/
theorem v28_at (b : Fin 8) (i : Fin 1024) :
    val_main_v28 (F := Ideal) x0 x1 x2 x3 x4 x5 x6 x7 x8 x9 (ix2 b i) = Spec.logitAt x0 x1 x2 x3 x4 x5 x6 x7 x8 x9 b i := by
  have e : idx_main_v28 (ix2 b i) = ix1 (row b i) := funext fun a => by
    fin_cases a
    rfl
  rw [val_main_v28_apply, e, val_main_v27_apply, v26_at, v24_at, Ideal.hostDivf_def, Ideal.div_coe (by positivity)]
  simp only [v22_at, v15_at, kv_at, one_div]
  rfl

/-- The greatest logit of a segment. -/
theorem v29_at (b : Fin 8) :
    val_main_v29 (F := Ideal) x0 x1 x2 x3 x4 x5 x6 x7 x8 x9 (ix1 b) = Spec.top (fun i => val_main_v28 (F := Ideal) x0 x1 x2 x3 x4 x5 x6 x7 x8 x9 (ix2 b i)) := by
  unfold val_main_v29 val_main_cst_1
  generalize val_main_v28 (F := Ideal) x0 x1 x2 x3 x4 x5 x6 x7 x8 x9 = y
  pointwise
  rfl

/-- The weight of an object, from the logits of its segment. -/
theorem v37_at (b : Fin 8) (i : Fin 1024) :
    val_main_v37 (F := Ideal) x0 x1 x2 x3 x4 x5 x6 x7 x8 x9 (ix2 b i) = Spec.weight (fun i => val_main_v28 (F := Ideal) x0 x1 x2 x3 x4 x5 x6 x7 x8 x9 (ix2 b i)) i := by
  have h := v29_at x0 x1 x2 x3 x4 x5 x6 x7 x8 x9
  unfold val_main_v37 val_main_v36 val_main_v35 val_main_v34 val_main_cst_2 val_main_v33 val_main_v32 val_main_v31 val_main_v30
  revert h
  generalize val_main_v29 (F := Ideal) x0 x1 x2 x3 x4 x5 x6 x7 x8 x9 = z
  generalize val_main_v28 (F := Ideal) x0 x1 x2 x3 x4 x5 x6 x7 x8 x9 = y
  intro h
  pointwise
  rw [h b]
  rfl

/-- The weights the reference leaves. -/
theorem weights_at (b : Fin 8) (i : Fin 1024) :
    val_main_v37 (F := Ideal) x0 x1 x2 x3 x4 x5 x6 x7 x8 x9 (ix2 b i) = Spec.weightAt x0 x1 x2 x3 x4 x5 x6 x7 x8 x9 b i := by
  rw [v37_at]
  unfold Spec.weightAt
  simp only [v28_at]

/-- The values by segment and object. -/
theorem v39_at (b : Fin 8) (i : Fin 1024) (j : Fin 512) :
    val_main_v39 (F := Ideal) x0 x2 x3 x4 x5 x6 x7 (ix3 b i j) = Spec.kvAt x0 x2 x3 x4 x5 x6 x7 b i (Spec.valAt j) := by
  rw [val_main_v39_apply, ← kv_at, ← v16_at]
  refine congrArg _ (funext fun a => Fin.ext ?_)
  have hb := b.isLt
  have hi := i.isLt
  have hj := j.isLt
  match a with
  | ⟨0, _⟩ => show ((b.val * 1024 + i.val) * 512 + j.val) / 512 = b.val * 1024 + i.val; omega
  | ⟨1, _⟩ => show ((b.val * 1024 + i.val) * 512 + j.val) % 512 = j.val; omega

/-- The embedding the reference leaves. -/
theorem embedding_at (b : Fin 8) (j : Fin 512) :
    val_main_v42 (F := Ideal) x0 x1 x2 x3 x4 x5 x6 x7 x8 x9 (ix2 b j) = Spec.embAt x0 x1 x2 x3 x4 x5 x6 x7 x8 x9 b j := by
  have h := weights_at x0 x1 x2 x3 x4 x5 x6 x7 x8 x9 b
  have h' := v39_at x0 x2 x3 x4 x5 x6 x7 b
  unfold Spec.embAt Spec.mix
  unfold val_main_v42 val_main_cst_3 val_main_v41 val_main_v40 val_main_v38
  revert h h'
  generalize val_main_v37 (F := Ideal) x0 x1 x2 x3 x4 x5 x6 x7 x8 x9 = z
  generalize val_main_v39 (F := Ideal) x0 x2 x3 x4 x5 x6 x7 = y
  intro h h'
  pointwise
  simp only [h, h']

end Cert.ReferenceIdeal.Read

end
-- ==== Proof.Equation.lean ====
/-
  The equation of the two programs: each result of the kernel is the reference's result of the same arguments.
-/
module

public import proofs.«01_k».proof.Proof.KernelValue
public import proofs.«01_k».proof.Proof.Reference

@[expose] public section

set_option maxRecDepth 16384

noncomputable section

namespace Cert.Equation

open Cert.KernelIdeal Cert.KernelIdeal.Hand
open Idealize.ShloMosaic Idealize.ShloMosaic.TcCoe
open Idealize.SL.Sem

variable (m : (ℓ : Loc nD τ sig) → Buf (Elt Ideal) ℓ)

/-- The kernel's embeddings are the reference's embeddings of the same ten arguments. -/
theorem embedding_eq (c : Dev nD) : emb m c = Cert.ReferenceIdeal.Read.val_main_v42 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) := by
  funext y
  have hy : y = ix2 (y 0) (y 1) := funext fun a => by fin_cases a <;> rfl
  rw [hy]
  exact (emb_apply m c (y 0) (y 1)).trans (Cert.ReferenceIdeal.Read.embedding_at _ _ _ _ _ _ _ _ _ _ (y 0) (y 1)).symm

/-- The kernel's weights are the reference's weights of the same ten arguments. -/
theorem weights_eq (c : Dev nD) : wts m c = Cert.ReferenceIdeal.Read.val_main_v37 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) := by
  funext y
  have hy : y = ix2 (y 0) (y 1) := funext fun a => by fin_cases a <;> rfl
  rw [hy]
  exact (wts_apply m c (y 0) (y 1)).trans (Cert.ReferenceIdeal.Read.weights_at _ _ _ _ _ _ _ _ _ _ (y 0) (y 1)).symm

end Cert.Equation

end
-- ==== Proof.lean ====
/-
  The proof of the certificate's five claims: the three programs' frames, the one named constant, and the equality of
  the kernel's results with the reference's over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.Run
public import proofs.«01_k».proof.Proof.Equation
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The kernel's frame, at the machine's words. -/
theorem kernel_frame : quiescent_Kernel (hKernel := Cert.Kernel.Gen.facts) :=
  fun m g _ => Cert.Kernel.Hand.frame m g

/-- The idealized kernel's frame: its run, with what it says of the results left out. -/
theorem ideal_frame : quiescent_KernelIdeal (hKernelIdeal := Cert.KernelIdeal.Gen.facts) :=
  fun m g _ => (θ_run Cert.KernelIdeal.defs _ _).mono (fun _ h => ⟨fun c => (h.1 c).2.2, h.2⟩)
    (Cert.KernelIdeal.Hand.run (F := Ideal) m g)

/-- The reference's frame: it has no semaphore at all. -/
theorem reference_frame : quiescent_ReferenceIdeal (hReferenceIdeal := Cert.ReferenceIdeal.Gen.facts) :=
  fun m g _ => (θ_run Cert.ReferenceIdeal.defs _ _).mono
    (fun r h => ⟨fun c => (h c).2.2, sem_eq_zero_of_no_sems (by decide) r.2⟩)
    (Cert.ReferenceIdeal.Value.run (F := Ideal) m g)

/-- The one rewritten constant: the kernel's scale is the reciprocal of the root of 512. -/
theorem scale_named : preserves_Kernel_KernelIdeal :=
  IdealRules.named_const.statement Cert.KernelIdeal.κ "s" .f32 0x3D3504F3#32 _ rfl

/-- From equal arguments, the kernel and the reference end with equal embeddings and equal weights. -/
theorem values_equal : algebraic_KernelIdeal_ReferenceIdeal (hKernelIdeal := Cert.KernelIdeal.Gen.facts)
    (hReferenceIdeal := Cert.ReferenceIdeal.Gen.facts) := by
  intro m g m' g' _ ha
  refine ⟨fun c => Cert.KernelIdeal.Hand.emb m c, fun c => Cert.KernelIdeal.Hand.wts m c,
    (θ_run Cert.KernelIdeal.defs _ _).mono (fun _ h => h.1) (Cert.KernelIdeal.Hand.run (F := Ideal) m g),
    (θ_run Cert.ReferenceIdeal.defs _ _).mono (fun _ h c => ⟨?_, ?_, (h c).2.2⟩)
      (Cert.ReferenceIdeal.Value.run (F := Ideal) m' g')⟩
  · obtain ⟨a0, a1, a2, a3, a4, a5, a6, a7, a8, a9⟩ := ha c
    refine (h c).1.trans ((Cert.ReferenceIdeal.Read.val_main_v42_eq m' c).trans ?_)
    rw [a0, a1, a2, a3, a4, a5, a6, a7, a8, a9]
    exact (Cert.Equation.embedding_eq m c).symm
  · obtain ⟨a0, a1, a2, a3, a4, a5, a6, a7, a8, a9⟩ := ha c
    refine (h c).2.1.trans ((Cert.ReferenceIdeal.Read.val_main_v37_eq m' c).trans ?_)
    rw [a0, a1, a2, a3, a4, a5, a6, a7, a8, a9]
    exact (Cert.Equation.weights_eq m c).symm

/-- Every claim of the certificate. -/
theorem claim : Cert.Claim := ⟨Cert.Kernel.Gen.facts, Cert.KernelIdeal.Gen.facts, Cert.ReferenceIdeal.Gen.facts,
  kernel_frame, ideal_frame, reference_frame, scale_named, values_equal⟩

end Cert.Proof

end
